-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v53_0) = v1 c
          ∧ r.2.mem ((c.tc : Thread Cert.ReferenceIdeal.nD Cert.ReferenceIdeal.τ).loc Cert.ReferenceIdeal.main_v53_1) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S31744x4096 : Shape := ⟨2, ![31744, 4096]⟩
abbrev S_ : Shape := ⟨0, ![]⟩

class Facts : Prop where
  bcast_S_S31744x4096 : S_.BroadcastsInDim S31744x4096 (![] : Fin 0 → Fin S31744x4096.rank)

variable [Facts]

def fn {F : FTy → Type} [FloatOps F] (main_arg0 : FVec F S31744x4096 .bf16) (main_arg1 : FVec F S31744x4096 .bf16) : IVec S31744x4096 1 :=
  let main_v0 : FVec F S31744x4096 .bf16 := Host.absf main_arg0
  let main_cst : FVec F S_ .bf16 := constant S_ .bf16 0x7F7F#16
  let main_v1 : FVec F S31744x4096 .bf16 := broadcastInDim S31744x4096 ![] bcast_S_S31744x4096 main_cst
  let main_v2 : IVec S31744x4096 1 := cmpf .ole main_v0 main_v1
  main_v2
-- ==== Kernel.lean ====
abbrev S31744x4096 : Shape := ⟨2, ![31744, 4096]⟩
abbrev S8x4096 : Shape := ⟨2, ![8, 4096]⟩
abbrev S4096x31744 : Shape := ⟨2, ![4096, 31744]⟩
abbrev S248x8x4096 : Shape := ⟨3, ![248, 8, 4096]⟩
abbrev S512x1024 : Shape := ⟨2, ![512, 1024]⟩
abbrev S8x1024 : Shape := ⟨2, ![8, 1024]⟩
abbrev S1024x512 : Shape := ⟨2, ![1024, 512]⟩
abbrev S4x8x1024 : Shape := ⟨3, ![4, 8, 1024]⟩
abbrev S128x128 : Shape := ⟨2, ![128, 128]⟩
abbrev S8x128 : Shape := ⟨2, ![8, 128]⟩
abbrev S16x8x128 : Shape := ⟨3, ![16, 8, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x8x128 : Shape := ⟨3, ![1, 8, 128]⟩
abbrev S_ : Shape := ⟨0, ![]⟩
abbrev S4096 : Shape := ⟨1, ![4096]⟩
abbrev S248x1x32 : Shape := ⟨3, ![248, 1, 32]⟩
abbrev S248x32 : Shape := ⟨2, ![248, 32]⟩

abbrev nBuf : Space → Nat
  | .hbm => 10
  | .vmem => 12
  | .smem => 0
  | _ => 0

abbrev bufTy : (tb : Table) → Fin (tcTables nBuf tb) → BufTy
  | .hbm, ⟨0, _⟩ => ⟨S31744x4096, .bf16⟩
  | .hbm, ⟨1, _⟩ => ⟨S31744x4096, .bf16⟩
  | .hbm, ⟨2, _⟩ => ⟨S8x4096, .f32⟩
  | .hbm, ⟨3, _⟩ => ⟨S31744x4096, .fp8e5m2⟩
  | .hbm, ⟨4, _⟩ => ⟨S4096x31744, .fp8e5m2⟩
  | .hbm, ⟨5, _⟩ => ⟨S248x8x4096, .f32⟩
  | .hbm, ⟨6, _⟩ => ⟨S_, .f32⟩
  | .hbm, ⟨7, _⟩ => ⟨S4096, .f32⟩
  | .hbm, ⟨8, _⟩ => ⟨S248x1x32, .f32⟩
  | .hbm, ⟨9, _⟩ => ⟨S248x32, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S8x1024, .f32⟩
  | .local _ .vmem, ⟨5, _⟩ => ⟨S8x1024, .f32⟩
  | .local _ .vmem, ⟨6, _⟩ => ⟨S512x1024, .fp8e5m2⟩
  | .local _ .vmem, ⟨7, _⟩ => ⟨S512x1024, .fp8e5m2⟩
  | .local _ .vmem, ⟨8, _⟩ => ⟨S1024x512, .fp8e5m2⟩
  | .local _ .vmem, ⟨9, _⟩ => ⟨S1024x512, .fp8e5m2⟩
  | .local _ .vmem, ⟨10, _⟩ => ⟨S4x8x1024, .f32⟩
  | .local _ .vmem, ⟨11, _⟩ => ⟨S4x8x1024, .f32⟩
  | _, _ => ⟨S31744x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 62], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S31744x4096 : Shape := ⟨2, ![31744, 4096]⟩
abbrev S_ : Shape := ⟨0, ![]⟩
abbrev S248x128x4096 : Shape := ⟨3, ![248, 128, 4096]⟩
abbrev S248x4096 : Shape := ⟨2, ![248, 4096]⟩
abbrev S4096 : Shape := ⟨1, ![4096]⟩
abbrev S248x128x32x128 : Shape := ⟨4, ![248, 128, 32, 128]⟩
abbrev S248x32 : Shape := ⟨2, ![248, 32]⟩
abbrev S248x1x32x1 : Shape := ⟨4, ![248, 1, 32, 1]⟩
abbrev S4096x31744 : Shape := ⟨2, ![4096, 31744]⟩

abbrev nBuf : Space → Nat
  | .hbm => 76
  | .vmem => 4
  | .smem => 0
  | _ => 0

abbrev bufTy : (tb : Table) → Fin (tcTables nBuf tb) → BufTy
  | .hbm, ⟨0, _⟩ => ⟨S31744x4096, .bf16⟩
  | .hbm, ⟨1, _⟩ => ⟨S31744x4096, .bf16⟩
  | .hbm, ⟨2, _⟩ => ⟨S31744x4096, .f32⟩
  | .hbm, ⟨3, _⟩ => ⟨S31744x4096, .f32⟩
  | .hbm, ⟨4, _⟩ => ⟨S31744x4096, .f32⟩
  | .hbm, ⟨5, _⟩ => ⟨S_, .f32⟩
  | .hbm, ⟨6, _⟩ => ⟨S31744x4096, .f32⟩
  | .hbm, ⟨7, _⟩ => ⟨S31744x4096, .f32⟩
  | .hbm, ⟨8, _⟩ => ⟨S31744x4096, .f32⟩
  | .hbm, ⟨9, _⟩ => ⟨S31744x4096, .f32⟩
  | .hbm, ⟨10, _⟩ => ⟨S_, .f32⟩
  | .hbm, ⟨11, _⟩ => ⟨S31744x4096, .f32⟩
  | .hbm, ⟨12, _⟩ => ⟨S31744x4096, .f32⟩
  | .hbm, ⟨13, _⟩ => ⟨S31744x4096, .f32⟩
  | .hbm, ⟨14, _⟩ => ⟨S_, .f32⟩
  | .hbm, ⟨15, _⟩ => ⟨S31744x4096, .f32⟩
  | .hbm, ⟨16, _⟩ => ⟨S31744x4096, .f32⟩
  | .hbm, ⟨17, _⟩ => ⟨S_, .f32⟩
  | .hbm, ⟨18, _⟩ => ⟨S31744x4096, .f32⟩
  | .hbm, ⟨19, _⟩ => ⟨S31744x4096, .f32⟩
  | .hbm, ⟨20, _⟩ => ⟨S_, .f32⟩
  | .hbm, ⟨21, _⟩ => ⟨S31744x4096, .f32⟩
  | .hbm, ⟨22, _⟩ => ⟨S31744x4096, .f32⟩
  | .hbm, ⟨23, _⟩ => ⟨S31744x4096, .f32⟩
  | .hbm, ⟨24, _⟩ => ⟨S_, .f32⟩
  | .hbm, ⟨25, _⟩ => ⟨S31744x4096, .f32⟩
  | .hbm, ⟨26, _⟩ => ⟨S31744x4096, .f32⟩
  | .hbm, ⟨27, _⟩ => ⟨S31744x4096, .f32⟩
  | .hbm, ⟨28, _⟩ => ⟨S_, .f32⟩
  | .hbm, ⟨29, _⟩ => ⟨S31744x4096, .f32⟩
  | .hbm, ⟨30, _⟩ => ⟨S31744x4096, .f32⟩
  | .hbm, ⟨31, _⟩ => ⟨S_, .f32⟩
  | .hbm, ⟨32, _⟩ => ⟨S31744x4096, .f32⟩
  | .hbm, ⟨33, _⟩ => ⟨S31744x4096, .f32⟩
  | .hbm, ⟨34, _⟩ => ⟨S_, .f32⟩
  | .hbm, ⟨35, _⟩ => ⟨S31744x4096, .f32⟩
  | .hbm, ⟨36, _⟩ => ⟨S31744x4096, .f32⟩
  | .hbm, ⟨37, _⟩ => ⟨S31744x4096, .f32⟩
  | .hbm, ⟨38, _⟩ => ⟨S31744x4096, .f32⟩
  | .hbm, ⟨39, _⟩ => ⟨S31744x4096, .f32⟩
  | .hbm, ⟨40, _⟩ => ⟨S248x128x4096, .f32⟩
  | .hbm, ⟨41, _⟩ => ⟨S_, .f32⟩
  | .hbm, ⟨42, _⟩ => ⟨S248x4096, .f32⟩
  | .hbm, ⟨43, _⟩ => ⟨S_, .f32⟩
  | .hbm, ⟨44, _⟩ => ⟨S4096, .f32⟩
  | .hbm, ⟨45, _⟩ => ⟨S248x128x32x128, .f32⟩
  | .hbm, ⟨46, _⟩ => ⟨S248x128x32x128, .f32⟩
  | .hbm, ⟨47, _⟩ => ⟨S_, .f32⟩
  | .hbm, ⟨48, _⟩ => ⟨S248x32, .f32⟩
  | .hbm, ⟨49, _⟩ => ⟨S_, .f32⟩
  | .hbm, ⟨50, _⟩ => ⟨S248x32, .f32⟩
  | .hbm, ⟨51, _⟩ => ⟨S248x32, .f32⟩
  | .hbm, ⟨52, _⟩ => ⟨S_, .f32⟩
  | .hbm, ⟨53, _⟩ => ⟨S248x32, .f32⟩
  | .hbm, ⟨54, _⟩ => ⟨S248x32, .f32⟩
  | .hbm, ⟨55, _⟩ => ⟨S248x32, .f32⟩
  | .hbm, ⟨56, _⟩ => ⟨S248x32, .f32⟩
  | .hbm, ⟨57, _⟩ => ⟨S248x32, .f32⟩
  | .hbm, ⟨58, _⟩ => ⟨S_, .f32⟩
  | .hbm, ⟨59, _⟩ => ⟨S248x32, .f32⟩
  | .hbm, ⟨60, _⟩ => ⟨S248x32, .f32⟩
  | .hbm, ⟨61, _⟩ => ⟨S_, .f32⟩
  | .hbm, ⟨62, _⟩ => ⟨S248x32, .f32⟩
  | .hbm, ⟨63, _⟩ => ⟨S248x32, .i1⟩
  | .hbm, ⟨64, _⟩ => ⟨S_, .f32⟩
  | .hbm, ⟨65, _⟩ => ⟨S_, .f32⟩
  | .hbm, ⟨66, _⟩ => ⟨S248x32, .f32⟩
  | .hbm, ⟨67, _⟩ => ⟨S248x32, .f32⟩
  | .hbm, ⟨68, _⟩ => ⟨S248x32, .f32⟩
  | .hbm, ⟨69, _⟩ => ⟨S248x32, .f32⟩
  | .hbm, ⟨70, _⟩ => ⟨S248x32, .f32⟩
  | .hbm, ⟨71, _⟩ => ⟨S248x1x32x1, .f32⟩
  | .hbm, ⟨72, _⟩ => ⟨S248x128x32x128, .f32⟩
  | .hbm, ⟨73, _⟩ => ⟨S31744x4096, .f32⟩
  | .hbm, ⟨74, _⟩ => ⟨S31744x4096, .fp8e5m2⟩
  | .hbm, ⟨75, _⟩ => ⟨S4096x31744, .fp8e5m2⟩
  | .local _ .vmem, ⟨0, _⟩ => ⟨S31744x4096, .f32⟩
  | .local _ .vmem, ⟨1, _⟩ => ⟨S31744x4096, .f32⟩
  | .local _ .vmem, ⟨2, _⟩ => ⟨S31744x4096, .fp8e5m2⟩
  | .local _ .vmem, ⟨3, _⟩ => ⟨S4096x31744, .fp8e5m2⟩
  | _, _ => ⟨S31744x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩
abbrev main_v36 : Ref sig .tc := ⟨.hbm, 51, rfl⟩
abbrev main_cst_12 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_v43 : Ref sig .tc := ⟨.hbm, 60, rfl⟩
abbrev main_cst_14 : Ref sig .tc := ⟨.hbm, 61, rfl⟩
abbrev main_v44 : Ref sig .tc := ⟨.hbm, 62, rfl⟩
abbrev main_v45 : Ref sig .tc := ⟨.hbm, 63, rfl⟩
abbrev main_cst_15 : Ref sig .tc := ⟨.hbm, 64, rfl⟩
abbrev main_call0_v0 : Ref sig .tc := ⟨.hbm, 65, rfl⟩
abbrev main_call0_v1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53_0 : Ref sig .tc := ⟨.hbm, 74, rfl⟩
abbrev main_v53_1 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S31744x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31744x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31744x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x31744 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Block.lean ====
/-
  What the kernel computes for ONE 128 × 128 block, as functions of the block's two inputs. A grid point handles 32 such
  blocks, one after the other and all alike; `Proof/Pieces.lean` shows that the stores of a grid point are these functions
  of its 32 blocks.
-/
module

public import proofs.«01_k».proof.Proof.Gen.KernelIdeal.Frame
public import Idealize.ShloMosaic.Lib.Pipeline.Value

@[expose] public section

noncomputable section

namespace Cert.KernelIdeal.Block

open Cert.KernelIdeal Cert.KernelIdeal.Gen Idealize.ShloMosaic

variable {F : FTy → Type} [FloatOps F]

/-- The gradient times the derivative of the GELU: the values that are quantised and summed. -/
def val (g x : Vec F S128x128 .bf16) : FVec F S128x128 .f32 := k0_pay4 g x

/-- The partial column sums `acc`, with this block's rows added to them: eight rows, each the sum of every eighth row. -/
def addSums (g x : Vec F S128x128 .bf16) (acc : Vec F S8x128 .f32) : FVec F S8x128 .f32 := k0_pay5 g x acc

/-- The block's greatest magnitude times 1/57344, in every element of an 8 × 128 array. -/
def ratio (v : FVec F S128x128 .f32) : FVec F S8x128 .f32 := k0_pay6 v

/-- One step of the search for the exponent field of `y`: `bit` is added to `e` where the power of two whose exponent
    field is `e + bit` is at most `y`. -/
def step (y : FVec F S8x128 .f32) (bit : BitVec 32) (e : IVec S8x128 32) : IVec S8x128 32 :=
  select (cmpf .oge y (bitcastToFloat .f32 (shli (addi e (broadcast S8x128 bit)) (broadcast S8x128 23#32))))
    (addi e (broadcast S8x128 bit)) e

/-- The exponent field of `y`: the eight steps of the search. -/
def field (y : FVec F S8x128 .f32) : IVec S8x128 32 :=
  step y 1#32 (step y 2#32 (step y 4#32 (step y 8#32 (step y 16#32 (step y 32#32 (step y 64#32 (step y 128#32
    (broadcast S8x128 0#32))))))))

/-- The exponent field with 126, the field of a half, in place of 0 and of 255. -/
def field' (e : IVec S8x128 32) : IVec S8x128 32 :=
  select (ori (cmpi .eq e (broadcast S8x128 0#32)) (cmpi .eq e (broadcast S8x128 255#32))) (broadcast S8x128 126#32) e

/-- The block's scale, a power of two, -/
def scale (e : IVec S8x128 32) : FVec F S8x128 .f32 :=
  bitcastToFloat .f32 (shli (addi e (broadcast S8x128 1#32)) (broadcast S8x128 23#32))

/-- and one over it. -/
def inv (e : IVec S8x128 32) : FVec F S8x128 .f32 :=
  bitcastToFloat .f32 (shli (subi (broadcast S8x128 253#32) e) (broadcast S8x128 23#32))

/-- The block's exponent field, from its inputs. -/
def fieldOf (g x : Vec F S128x128 .bf16) : IVec S8x128 32 := field' (field (ratio (val g x)))

/-- What is stored as the block's scale, -/
def scaleOut (g x : Vec F S128x128 .bf16) : FVec F S1x8x128 .f32 :=
  shapeCast S1x8x128 (scale (fieldOf g x)) shapeCasts_S8x128_S1x8x128

/-- as its codes, -/
def codes (g x : Vec F S128x128 .bf16) : FVec F S128x128 .fp8e5m2 := k0_pay1 (inv (fieldOf g x)) (shapeCast S16x8x128 (val g x) shapeCasts_S128x128_S16x8x128)

/-- and as its codes, transposed. -/
def codesT (g x : Vec F S128x128 .bf16) : FVec F S128x128 .fp8e5m2 :=
  transpose S128x128 [1, 0] (codes g x) transposes_S128x128_p1_0_S128x128

end Cert.KernelIdeal.Block

end
-- ==== Proof.Scale.lean ====
/-
  The scale of one block, from `y`, its greatest magnitude over 57344. The kernel finds the exponent field of `y` by
  comparing `y` with powers of two and builds the scale's bits from that field; the reference takes
  `2 ^ (⌊log y / log 2⌋ + 1)`. For every `0 ≤ y < 2 ^ 126` the two scales are equal, and so are the two reciprocals.
-/
module

public import Idealize.ShloMosaic.PureOps.Ideal.Laws

@[expose] public section

noncomputable section

namespace Cert.Scale

open Idealize.ShloMosaic

/-- The float whose exponent field is `e` and whose other bits are zero. -/
def word (e : BitVec 32) : EReal := Ideal.ofBits .f32 (IntOp.shli .vector e 23#32)

/-- One step of the kernel's search. -/
def step (y : EReal) (b e : BitVec 32) : BitVec 32 := if word (IntOp.addi e b) ≤ y then IntOp.addi e b else e

/-- The exponent field of `y`, as the kernel finds it. -/
def field (y : EReal) : BitVec 32 :=
  step y 1#32 (step y 2#32 (step y 4#32 (step y 8#32 (step y 16#32 (step y 32#32 (step y 64#32 (step y 128#32 0#32)))))))

/-- The field used: that of a half where `y` has none. -/
def field' (e : BitVec 32) : BitVec 32 := if e = 0#32 ∨ e = 255#32 then 126#32 else e

/-- The kernel's scale, -/
def scaleK (y : EReal) : EReal := word (IntOp.addi (field' (field y)) 1#32)

/-- and its reciprocal. -/
def invK (y : EReal) : EReal := word (IntOp.subi 253#32 (field' (field y)))

/-- The reference's exponent of the scale, -/
def expR (y : EReal) : EReal :=
  if y < Ideal.ofBits .f32 0x00800000#32 then Ideal.ofBits .f32 0x00000000#32
  else Ideal.liftRound Int.floor (Ideal.div (Ideal.log y) (Ideal.log (Ideal.ofBits .f32 0x40000000#32))) + Ideal.ofBits .f32 0x3F800000#32

/-- its scale, -/
def scaleR (y : EReal) : EReal := Ideal.pow (Ideal.ofBits .f32 0x40000000#32) (expR y)

/-- and its reciprocal. -/
def invR (y : EReal) : EReal := Ideal.pow (Ideal.ofBits .f32 0x40000000#32) (-expR y)

/-! ### The powers of two -/

/-- The float with exponent field `n`: zero, a power of two, or infinity. -/
theorem word_ofNat (n : ℕ) (h : n < 256) :
    word (BitVec.ofNat 32 n) = if n = 255 then ⊤ else if n = 0 then 0 else (((2 : ℝ) ^ ((n : ℤ) - 127) : ℝ) : EReal) := by
  have hs : (IntOp.shli .vector (BitVec.ofNat 32 n) 23#32).toNat = n * 2 ^ 23 := by
    have : IntOp.shli .vector (BitVec.ofNat 32 n) 23#32 = BitVec.ofNat 32 n <<< (23#32) := by
      unfold IntOp.shli; rw [if_pos (by decide)]
    rw [this, BitVec.shiftLeft_eq', BitVec.toNat_shiftLeft, BitVec.toNat_ofNat, BitVec.toNat_ofNat, Nat.shiftLeft_eq]
    rw [Nat.mod_eq_of_lt (show n < 2 ^ 32 by omega), Nat.mod_eq_of_lt (show 23 < 2 ^ 32 by omega)]
    omega
  unfold word
  generalize IntOp.shli .vector (BitVec.ofNat 32 n) 23#32 = b at hs
  have h1 : (b.extractLsb' 31 1 == 1#1) = false := by
    rw [beq_eq_false_iff_ne]; intro hh
    have := congrArg BitVec.toNat hh
    rw [BitVec.extractLsb'_toNat, hs, Nat.shiftRight_eq_div_pow] at this
    simp at this; omega
  have h2 : (b.extractLsb' 23 8).toNat = n := by
    rw [BitVec.extractLsb'_toNat, hs, Nat.shiftRight_eq_div_pow]; omega
  have h3 : (b.extractLsb' 0 23).toNat = 0 := by
    rw [BitVec.extractLsb'_toNat, hs, Nat.shiftRight_eq_div_pow]; omega
  show Ideal.ieee 8 23 b = _
  unfold Ideal.ieee
  simp only [Nat.reduceAdd, h1, h2, h3]
  by_cases hn : n = 255
  · simp [hn]
  · by_cases h0 : n = 0
    · simp [h0]
    · rw [if_neg (by norm_num; omega), if_neg h0, if_neg hn, if_neg h0]
      congr 1
      have : ((n : ℤ) - 127) = ((n : ℤ) - (2 ^ (8 - 1) - 1) - (23 : ℕ)) + 23 := by push_cast; ring
      rw [this, zpow_add₀ (by norm_num)]
      push_cast
      norm_num
      ring

theorem word_pow (n : ℕ) (h0 : 0 < n) (h : n < 255) :
    word (BitVec.ofNat 32 n) = (((2 : ℝ) ^ ((n : ℤ) - 127) : ℝ) : EReal) := by
  rw [word_ofNat n (by omega), if_neg (by omega), if_neg (by omega)]

theorem word_zero : word (BitVec.ofNat 32 0) = 0 := by rw [word_ofNat 0 (by omega), if_neg (by omega), if_pos rfl]

theorem word_mono {a b : ℕ} (hab : a ≤ b) (hb : b < 256) : word (BitVec.ofNat 32 a) ≤ word (BitVec.ofNat 32 b) := by
  rw [word_ofNat a (by omega), word_ofNat b hb]
  by_cases h1 : b = 255
  · simp [h1]
  · rw [if_neg h1, if_neg (show ¬a = 255 by omega)]
    by_cases h2 : a = 0
    · rw [if_pos h2]; split
      · exact le_rfl
      · exact EReal.coe_nonneg.2 (by positivity)
    · rw [if_neg h2, if_neg (show ¬b = 0 by omega)]
      exact EReal.coe_le_coe_iff.2 (zpow_le_zpow_right₀ (by norm_num) (by omega))

/-! ### The search -/

/-- What a step of the search keeps: `e` is at or below the field of `y`, and `e` and what is left to add are above it. -/
def Below (y : EReal) (e : BitVec 32) (room : ℕ) : Prop :=
  ∃ n : ℕ, e = BitVec.ofNat 32 n ∧ n + room ≤ 256 ∧ word (BitVec.ofNat 32 n) ≤ y ∧ (n + room < 256 → y < word (BitVec.ofNat 32 (n + room)))

theorem Below.step {y : EReal} {e : BitVec 32} (b : ℕ) (hb : 0 < b) (h : Below y e (2 * b)) : Below y (step y (BitVec.ofNat 32 b) e) b := by
  obtain ⟨n, rfl, hn, hle, hlt⟩ := h
  have hadd : IntOp.addi (BitVec.ofNat 32 n) (BitVec.ofNat 32 b) = BitVec.ofNat 32 (n + b) := (BitVec.ofNat_add n b).symm
  unfold Scale.step
  rw [hadd]
  split
  · rename_i hy
    exact ⟨n + b, rfl, by omega, hy, fun h => by
      have := hlt (by omega)
      rwa [show n + b + b = n + 2 * b by omega]⟩
  · rename_i hy
    exact ⟨n, rfl, by omega, hle, fun _ => not_le.1 hy⟩

theorem field_below {y : EReal} (h0 : 0 ≤ y) : Below y (field y) 1 := by
  have h : Below y 0#32 256 := ⟨0, rfl, by omega, by rw [word_zero]; exact h0, fun h => absurd h (by omega)⟩
  exact (((((((h.step 128 (by omega)).step 64 (by omega)).step 32 (by omega)).step 16 (by omega)).step 8 (by omega)).step 4 (by omega)).step 2 (by omega)).step 1 (by omega)

/-- The field of a `y` below `2 ^ 126`: it is 0 below `2 ^ -126`, and elsewhere the `n` with `2 ^ (n - 127) ≤ y < 2 ^ (n - 126)`. -/
theorem field_spec {y : EReal} (h0 : 0 ≤ y) (h1 : y < (((2 : ℝ) ^ (126 : ℤ) : ℝ) : EReal)) :
    (field y = 0#32 ∧ y < (((2 : ℝ) ^ (-126 : ℤ) : ℝ) : EReal))
    ∨ ∃ n : ℕ, 0 < n ∧ n < 253 ∧ field y = BitVec.ofNat 32 n ∧ (((2 : ℝ) ^ ((n : ℤ) - 127) : ℝ) : EReal) ≤ y
      ∧ y < (((2 : ℝ) ^ ((n : ℤ) - 126) : ℝ) : EReal) := by
  obtain ⟨n, he, hn, hle, hlt⟩ := field_below h0
  have hn' : n < 253 := by
    by_contra hc
    have h2 := (word_mono (show 253 ≤ n by omega) (by omega)).trans hle
    rw [word_pow 253 (by omega) (by omega)] at h2
    exact absurd h1 (not_lt.2 h2)
  have hlt := hlt (by omega)
  rw [word_pow (n + 1) (by omega) (by omega)] at hlt
  by_cases h : n = 0
  · subst h
    exact .inl ⟨he, by simpa using hlt⟩
  · rw [word_pow n (by omega) (by omega)] at hle
    exact .inr ⟨n, by omega, hn', he, hle, by
      rwa [show ((n + 1 : ℕ) : ℤ) - 127 = (n : ℤ) - 126 by push_cast; ring] at hlt⟩

/-! ### The reference's exponent -/

theorem two_eq : Ideal.ofBits .f32 0x40000000#32 = ((2 : ℝ) : EReal) := by
  have := word_pow 128 (by omega) (by omega)
  norm_num at this
  exact this

theorem one_eq : Ideal.ofBits .f32 0x3F800000#32 = ((1 : ℝ) : EReal) := by
  have := word_pow 127 (by omega) (by omega)
  norm_num at this
  exact this

theorem least_eq : Ideal.ofBits .f32 0x00800000#32 = (((2 : ℝ) ^ (-126 : ℤ) : ℝ) : EReal) := by
  have := word_pow 1 (by omega) (by omega)
  norm_num at this ⊢
  exact this

theorem floor_log {r : ℝ} {k : ℤ} (h1 : (2 : ℝ) ^ k ≤ r) (h2 : r < (2 : ℝ) ^ (k + 1)) : ⌊Real.log r * (1 / Real.log 2)⌋ = k := by
  have hr : 0 < r := lt_of_lt_of_le (by positivity) h1
  have hl : 0 < Real.log 2 := Real.log_pos (by norm_num)
  rw [mul_one_div, Int.floor_eq_iff]
  constructor
  · rw [le_div_iff₀ hl, ← Real.log_zpow]
    exact Real.log_le_log (by positivity) h1
  · rw [div_lt_iff₀ hl]
    have := Real.log_lt_log hr h2
    rw [Real.log_zpow] at this
    push_cast at this
    exact this

theorem pow_two (k : ℤ) : Ideal.pow (Ideal.ofBits .f32 0x40000000#32) (((k : ℝ) : ℝ) : EReal) = (((2 : ℝ) ^ k : ℝ) : EReal) := by
  rw [two_eq, Ideal.pow_coe_coe]
  congr 1
  exact Real.rpow_intCast 2 k

theorem expR_eq {y : EReal} {k : ℤ} (hk : -126 ≤ k) (h1 : (((2 : ℝ) ^ k : ℝ) : EReal) ≤ y) (h2 : y < (((2 : ℝ) ^ (k + 1) : ℝ) : EReal)) :
    expR y = (((k + 1 : ℤ) : ℝ) : EReal) := by
  have hy : ¬ y < Ideal.ofBits .f32 0x00800000#32 := by
    rw [least_eq, not_lt]
    exact le_trans (EReal.coe_le_coe_iff.2 (zpow_le_zpow_right₀ (by norm_num) hk)) h1
  unfold expR
  rw [if_neg hy]
  induction y with
  | bot => exact absurd h1 (by simp)
  | top => exact absurd h2 (by simp)
  | coe r =>
    have h1 := EReal.coe_le_coe_iff.1 h1
    have h2 := EReal.coe_lt_coe_iff.1 h2
    have hr : 0 < r := lt_of_lt_of_le (by positivity) h1
    have hl : 0 < Real.log 2 := Real.log_pos (by norm_num)
    rw [two_eq, one_eq, Ideal.log_coe, Ideal.log_coe, if_neg (not_le.2 hr), if_neg (by norm_num), Ideal.div_coe hl.ne', ← EReal.coe_mul]
    show (((⌊Real.log r * (1 / Real.log 2)⌋ : ℝ)) : EReal) + _ = _
    rw [floor_log h1 h2, ← EReal.coe_add]
    push_cast; rfl

theorem expR_small {y : EReal} (h : y < (((2 : ℝ) ^ (-126 : ℤ) : ℝ) : EReal)) : expR y = (((0 : ℤ) : ℝ) : EReal) := by
  unfold expR
  rw [least_eq, if_pos h, Ideal.ofBits_zero_f32]
  simp

/-- Both scales are the same power of two, and so are both reciprocals. -/
theorem both_pow {y : EReal} (h0 : 0 ≤ y) (h1 : y < (((2 : ℝ) ^ (126 : ℤ) : ℝ) : EReal)) :
    ∃ k : ℤ, expR y = (((k : ℤ) : ℝ) : EReal) ∧ scaleK y = (((2 : ℝ) ^ k : ℝ) : EReal) ∧ invK y = (((2 : ℝ) ^ (-k) : ℝ) : EReal) := by
  rcases field_spec h0 h1 with ⟨hf, hy⟩ | ⟨n, hn0, hn, hf, hle, hlt⟩
  · refine ⟨0, expR_small hy, ?_, ?_⟩
    · unfold scaleK
      rw [hf, show IntOp.addi (field' 0#32) 1#32 = BitVec.ofNat 32 127 by decide, word_pow 127 (by omega) (by omega)]
      norm_num
    · unfold invK
      rw [hf, show IntOp.subi 253#32 (field' 0#32) = BitVec.ofNat 32 127 by decide, word_pow 127 (by omega) (by omega)]
      norm_num
  · have hne : ∀ m : ℕ, m < 256 → m ≠ n → BitVec.ofNat 32 n ≠ BitVec.ofNat 32 m := fun m hm hmn h => by
      have := congrArg BitVec.toNat h
      simp only [BitVec.toNat_ofNat] at this; omega
    have hf' : field' (field y) = BitVec.ofNat 32 n := by
      unfold field'; rw [hf, if_neg]
      rintro (h | h)
      · exact hne 0 (by omega) (by omega) h
      · exact hne 255 (by omega) (by omega) h
    refine ⟨(n : ℤ) - 126, ?_, ?_, ?_⟩
    · rw [expR_eq (k := (n : ℤ) - 127) (by omega) hle (by rwa [show (n : ℤ) - 127 + 1 = (n : ℤ) - 126 by ring])]
      congr 3; ring
    · unfold scaleK
      rw [hf', show IntOp.addi (BitVec.ofNat 32 n) 1#32 = BitVec.ofNat 32 (n + 1) from (BitVec.ofNat_add n 1).symm,
        word_pow (n + 1) (by omega) (by omega)]
      congr 2; push_cast; ring
    · unfold invK
      have hs : IntOp.subi 253#32 (BitVec.ofNat 32 n) = BitVec.ofNat 32 (253 - n) := by
        apply BitVec.eq_of_toNat_eq
        show (253#32 - BitVec.ofNat 32 n).toNat = _
        rw [BitVec.toNat_sub]
        simp only [BitVec.toNat_ofNat]
        omega
      rw [hf', hs, word_pow (253 - n) (by omega) (by omega),
        show (((253 - n : ℕ) : ℤ) - 127) = -((n : ℤ) - 126) by omega]

theorem scale_eq {y : EReal} (h0 : 0 ≤ y) (h1 : y < (((2 : ℝ) ^ (126 : ℤ) : ℝ) : EReal)) : scaleK y = scaleR y := by
  obtain ⟨k, he, hs, -⟩ := both_pow h0 h1
  rw [hs, scaleR, he, pow_two]

theorem inv_eq {y : EReal} (h0 : 0 ≤ y) (h1 : y < (((2 : ℝ) ^ (126 : ℤ) : ℝ) : EReal)) : invK y = invR y := by
  obtain ⟨k, he, -, hs⟩ := both_pow h0 h1
  rw [hs, invR, he, ← EReal.coe_neg, ← Int.cast_neg, pow_two]

end Cert.Scale

end
-- ==== Proof.Gelu.lean ====
/-
  One element of what both programs quantise and sum: a gradient times the derivative of the tanh approximation of the GELU.
  The derivative is a real number of magnitude at most 3, at the infinities too, so a finite gradient gives a bounded product.
-/
module

public import Idealize.ShloMosaic.PureOps.Ideal.Laws
public import Mathlib.Analysis.SpecialFunctions.Trigonometric.DerivHyp

@[expose] public section

noncomputable section

namespace Cert.Gelu

open Idealize.ShloMosaic

/-- The hyperbolic tangent in the GELU's approximation at `x`. -/
def tnh (x : EReal) : EReal :=
  Ideal.tanh (Ideal.ofBits .f32 0x3F4C422A#32 * (x + Ideal.ofBits .f32 0x3D372713#32 * (x * x) * x))

/-- The derivative of the GELU's tanh approximation at `x`. -/
def deriv (x : EReal) : EReal :=
  Ideal.ofBits .f32 0x3F000000#32 * (Ideal.ofBits .f32 0x3F800000#32 + tnh x)
    + Ideal.ofBits .f32 0x3F000000#32 * x * (Ideal.ofBits .f32 0x3F800000#32 - tnh x * tnh x) * Ideal.ofBits .f32 0x3F4C422A#32
      * (Ideal.ofBits .f32 0x3F800000#32 + Ideal.ofBits .f32 0x3E095D4F#32 * (x * x))

/-- The gradient `g` carried back through the GELU at `x`. -/
def val (g x : EReal) : EReal := g * deriv x

/-! ### The constants -/

theorem half_eq : Ideal.ofBits .f32 0x3F000000#32 = ((1 / 2 : ℝ) : EReal) := by
  simp [Ideal.ofBits, Ideal.ieee, -EReal.coe_mul]; norm_num [-EReal.coe_mul]
theorem one_eq : Ideal.ofBits .f32 0x3F800000#32 = ((1 : ℝ) : EReal) := by
  simp [Ideal.ofBits, Ideal.ieee, -EReal.coe_mul]; norm_num [-EReal.coe_mul]
theorem k_eq : Ideal.ofBits .f32 0x3F4C422A#32 = ((13386282 / 2 ^ 24 : ℝ) : EReal) := by
  simp [Ideal.ofBits, Ideal.ieee, -EReal.coe_mul]; norm_num [-EReal.coe_mul]
theorem c_eq : Ideal.ofBits .f32 0x3D372713#32 = ((12003091 / 2 ^ 28 : ℝ) : EReal) := by
  simp [Ideal.ofBits, Ideal.ieee, -EReal.coe_mul]; norm_num [-EReal.coe_mul]
theorem d_eq : Ideal.ofBits .f32 0x3E095D4F#32 = ((9002319 / 2 ^ 26 : ℝ) : EReal) := by
  simp [Ideal.ofBits, Ideal.ieee, -EReal.coe_mul]; norm_num [-EReal.coe_mul]

/-! ### The bound -/

theorem one_sub_tanh_sq (u : ℝ) : 1 - Real.tanh u * Real.tanh u = 1 / Real.cosh u ^ 2 := by
  have hc := (Real.cosh_pos u).ne'
  rw [Real.tanh_eq_sinh_div_cosh]
  field_simp
  rw [Real.cosh_sq u]; ring

theorem abs_mul_sech_le (u : ℝ) : |u| * (1 - Real.tanh u * Real.tanh u) ≤ 1 := by
  rw [one_sub_tanh_sq, mul_one_div, div_le_one (by have := Real.cosh_pos u; positivity)]
  have h1 : |u| ≤ Real.sinh |u| := Real.self_le_sinh_iff.2 (abs_nonneg u)
  have h2 : Real.sinh |u| < Real.cosh |u| := Real.sinh_lt_cosh _
  rw [Real.cosh_abs] at h2
  have h3 := Real.one_le_cosh u
  nlinarith

theorem sech_nonneg (u : ℝ) : 0 ≤ 1 - Real.tanh u * Real.tanh u := by
  rw [one_sub_tanh_sq]; have := Real.cosh_pos u; positivity

theorem abs_tanh_le (u : ℝ) : |Real.tanh u| ≤ 1 := by
  have := sech_nonneg u
  rw [abs_le]; constructor <;> nlinarith

/-- For positive constants with `d ≤ 4 c`, the derivative is at most 3 in magnitude. -/
theorem real_bound {k c d : ℝ} (hk : 0 < k) (hc : 0 < c) (hd0 : 0 < d) (hd : d ≤ 4 * c) (x : ℝ) :
    |1 / 2 * (1 + Real.tanh (k * (x + c * (x * x) * x)))
      + 1 / 2 * x * (1 - Real.tanh (k * (x + c * (x * x) * x)) * Real.tanh (k * (x + c * (x * x) * x))) * k * (1 + d * (x * x))| ≤ 3 := by
  generalize hu : k * (x + c * (x * x) * x) = u
  have h1 := abs_mul_sech_le u
  have h2 := sech_nonneg u
  have h3 := abs_le.1 (abs_tanh_le u)
  have hx : |u| = k * (|x| * (1 + c * (x * x))) := by
    rw [← hu, abs_mul, abs_of_pos hk, show x + c * (x * x) * x = x * (1 + c * (x * x)) by ring, abs_mul,
      abs_of_pos (show 0 < 1 + c * (x * x) by nlinarith [mul_self_nonneg x])]
  have hle : |x| * k * (1 + d * (x * x)) ≤ 4 * |u| := by
    rw [hx]
    have ha := mul_nonneg (abs_nonneg x) hk.le
    have : 1 + d * (x * x) ≤ 4 * (1 + c * (x * x)) := by nlinarith [mul_self_nonneg x]
    nlinarith [mul_le_mul_of_nonneg_left this ha]
  have h4 : |1 / 2 * x * (1 - Real.tanh u * Real.tanh u) * k * (1 + d * (x * x))| ≤ 2 := by
    rw [show 1 / 2 * x * (1 - Real.tanh u * Real.tanh u) * k * (1 + d * (x * x))
        = 1 / 2 * ((1 - Real.tanh u * Real.tanh u) * (x * (k * (1 + d * (x * x))))) by ring, abs_mul, abs_mul, abs_mul,
      abs_of_nonneg h2, abs_of_pos (show (0 : ℝ) < 1 / 2 by norm_num),
      abs_of_pos (show 0 < k * (1 + d * (x * x)) by have := mul_self_nonneg x; positivity)]
    nlinarith [mul_le_mul_of_nonneg_left hle h2]
  rw [abs_le] at h4 ⊢
  constructor <;> linarith [h4.1, h4.2, h3.1, h3.2]

/-- The derivative is a real number of magnitude at most 3. -/
theorem deriv_bound (x : EReal) : ∃ r : ℝ, deriv x = (r : EReal) ∧ |r| ≤ 3 := by
  unfold deriv tnh
  rw [half_eq, one_eq, k_eq, c_eq, d_eq]
  have hk : (0 : ℝ) < 13386282 / 2 ^ 24 := by norm_num
  have hc : (0 : ℝ) < 12003091 / 2 ^ 28 := by norm_num
  have hd : (0 : ℝ) < 9002319 / 2 ^ 26 := by norm_num
  have hh : (0 : ℝ) < 1 / 2 := by norm_num
  induction x with
  | bot =>
    refine ⟨0, ?_, by norm_num⟩
    rw [EReal.bot_mul_bot, EReal.coe_mul_top_of_pos hc, EReal.top_mul_bot, EReal.bot_add, EReal.coe_mul_bot_of_pos hk, Ideal.tanh_bot,
      EReal.coe_mul_bot_of_pos hh, EReal.coe_mul_top_of_pos hd]
    have h1 : ((1 : ℝ) : EReal) + -1 = 0 := by rw [← EReal.coe_one, ← EReal.coe_neg, ← EReal.coe_add]; norm_num
    have h2 : ((1 : ℝ) : EReal) - -1 * -1 = 0 := by
      rw [← EReal.coe_one, ← EReal.coe_neg, ← EReal.coe_mul, ← EReal.coe_sub]; norm_num
    rw [h1, h2]; simp
  | top =>
    refine ⟨1, ?_, by norm_num⟩
    rw [EReal.top_mul_top, EReal.coe_mul_top_of_pos hc, EReal.top_mul_top, EReal.top_add_top, EReal.coe_mul_top_of_pos hk, Ideal.tanh_top,
      EReal.coe_mul_top_of_pos hh, EReal.coe_mul_top_of_pos hd]
    have h2 : ((1 : ℝ) : EReal) - 1 * 1 = 0 := by
      rw [← EReal.coe_one, ← EReal.coe_mul, ← EReal.coe_sub]; norm_num
    rw [h2]
    simp only [mul_zero, zero_mul, add_zero]
    rw [← EReal.coe_one, ← EReal.coe_add, ← EReal.coe_mul]
    norm_num [-EReal.coe_mul]
  | coe x =>
    refine ⟨_, ?_, real_bound hk hc hd (by norm_num) x⟩
    simp only [← EReal.coe_mul, ← EReal.coe_add, ← EReal.coe_sub, Ideal.tanh_coe]

/-- The greatest finite bfloat16 number. -/
theorem max_eq : Ideal.ofBits .bf16 0x7F7F#16 = ((255 * 2 ^ 120 : ℝ) : EReal) := by
  simp [Ideal.ofBits, Ideal.ieee, -EReal.coe_mul]

/-- With a finite gradient the product is a real number below `2 ^ 130`. -/
theorem val_bound {g : EReal} (hg : max g (-g) ≤ Ideal.ofBits .bf16 0x7F7F#16) (x : EReal) :
    max (val g x) (-(val g x)) ≤ ((2 ^ 130 : ℝ) : EReal) := by
  obtain ⟨r, hr, hb⟩ := deriv_bound x
  rw [max_eq] at hg
  unfold val
  rw [hr]
  induction g with
  | bot => exact absurd ((le_max_right _ _).trans hg) (not_le.2 (by rw [EReal.neg_bot]; exact EReal.coe_lt_top _))
  | top => exact absurd ((le_max_left _ _).trans hg) (not_le.2 (EReal.coe_lt_top _))
  | coe g =>
    have h1 := EReal.coe_le_coe_iff.1 ((le_max_left _ _).trans hg)
    have h2 := EReal.coe_le_coe_iff.1 (show ((-g : ℝ) : EReal) ≤ ((255 * 2 ^ 120 : ℝ) : EReal) from (EReal.coe_neg g).le.trans ((le_max_right _ _).trans hg))
    have hg' : |g| ≤ 255 * 2 ^ 120 := abs_le.2 ⟨by linarith, h1⟩
    have hm : |g * r| ≤ 2 ^ 130 := by
      rw [abs_mul]
      have := mul_le_mul hg' hb (abs_nonneg r) (by positivity)
      linarith [show (255 * 2 ^ 120 * 3 : ℝ) ≤ 2 ^ 130 by norm_num]
    rw [abs_le] at hm
    rw [← EReal.coe_mul, max_le_iff, ← EReal.coe_neg]
    exact ⟨EReal.coe_le_coe_iff.2 hm.2, EReal.coe_le_coe_iff.2 (by linarith [hm.1])⟩

/-- The factor 1/57344 by which a block's greatest magnitude is multiplied. -/
theorem factor_eq : Ideal.ofBits .f32 0x37924925#32 = ((9586981 / 2 ^ 39 : ℝ) : EReal) := by
  simp [Ideal.ofBits, Ideal.ieee, -EReal.coe_mul]; norm_num [-EReal.coe_mul]

/-- A magnitude up to `2 ^ 130`, over 57344, is in the range in which the two programs' scales are equal. -/
theorem ratio_bound {a : EReal} (h0 : 0 ≤ a) (h : a ≤ ((2 ^ 130 : ℝ) : EReal)) :
    0 ≤ a * Ideal.ofBits .f32 0x37924925#32 ∧ a * Ideal.ofBits .f32 0x37924925#32 < (((2 : ℝ) ^ (126 : ℤ) : ℝ) : EReal) := by
  rw [factor_eq]
  induction a with
  | bot => exact absurd h0 (by simp)
  | top => exact absurd h (not_le.2 (EReal.coe_lt_top _))
  | coe a =>
    have h0 := EReal.coe_nonneg.1 h0
    have h := EReal.coe_le_coe_iff.1 h
    rw [← EReal.coe_mul]
    refine ⟨EReal.coe_nonneg.2 (by positivity), EReal.coe_lt_coe_iff.2 ?_⟩
    have : a * (9586981 / 2 ^ 39 : ℝ) ≤ 2 ^ 130 * (9586981 / 2 ^ 39) := mul_le_mul_of_nonneg_right h (by norm_num)
    refine lt_of_le_of_lt this ?_
    norm_num

end Cert.Gelu

end
-- ==== Proof.Table.lean ====
/-
  What both programs compute, over a table `W` of extended reals indexed by natural numbers: the blocks' greatest
  magnitudes, their scales, the codes, and the column sums. An array of two axes is read as such a table.
-/
module

public import proofs.«01_k».proof.Proof.Scale
public import proofs.«01_k».proof.Proof.Gelu
public import Idealize.ShloMosaic.Lib.Pointwise

@[expose] public section

noncomputable section

namespace Cert.Table

open Idealize.ShloMosaic

/-- A sum over `n * m` places, as `n` sums over `m`. -/
theorem sum_range_mul (n m : ℕ) (f : ℕ → EReal) : ∑ i ∈ Finset.range (n * m), f i = ∑ a ∈ Finset.range n, ∑ b ∈ Finset.range m, f (m * a + b) := by
  induction n with
  | zero => simp
  | succ n ih => rw [Nat.succ_mul, Finset.sum_range_add, ih, Finset.sum_range_succ, Nat.mul_comm n m]

/-- Row `r`, column `c` of an `n × m` array. -/
abbrev at2 {n m : ℕ} [NeZero n] [NeZero m] (r c : ℕ) : (⟨2, ![n, m]⟩ : Shape).Idx := ix2 (Fin.ofNat n r) (Fin.ofNat m c)

/-- The table of the gradients `g` carried back through the GELU at `x`. -/
def vals {n m : ℕ} [NeZero n] [NeZero m] (g x : (⟨2, ![n, m]⟩ : Shape).Idx → EReal) (r c : ℕ) : EReal :=
  Gelu.val (g (at2 r c)) (x (at2 r c))

theorem vals_ix2 {n m : ℕ} [NeZero n] [NeZero m] (g x : (⟨2, ![n, m]⟩ : Shape).Idx → EReal) (r : Fin n) (c : Fin m) :
    vals g x r c = Gelu.val (g (ix2 r c)) (x (ix2 r c)) := by
  simp only [vals, at2, Fin.ofNat_eq_cast, Fin.cast_val_eq_self]

/-- The greatest magnitude in block `(a, b)` of 128 × 128 elements. -/
def amax (W : ℕ → ℕ → EReal) (a b : ℕ) : EReal :=
  Finset.univ.sup fun p : Fin 128 × Fin 128 => max (W (128 * a + p.1) (128 * b + p.2)) (-(W (128 * a + p.1) (128 * b + p.2)))

/-- That, over 57344. -/
def ratio (W : ℕ → ℕ → EReal) (a b : ℕ) : EReal := amax W a b * Ideal.ofBits .f32 0x37924925#32

/-- An element's code, where `inv` is the reciprocal of a block's scale. -/
def code (inv : EReal → EReal) (W : ℕ → ℕ → EReal) (r c : ℕ) : EReal :=
  min (Ideal.ofBits .f32 0x47600000#32) (max (Ideal.ofBits .f32 0xC7600000#32) (W r c * inv (ratio W (r / 128) (c / 128))))

/-- A table moved by whole blocks has the same blocks elsewhere. -/
theorem amax_shift {W W' : ℕ → ℕ → EReal} {a b a' b' : ℕ}
    (h : ∀ r c : ℕ, r < 128 → c < 128 → W (128 * a + r) (128 * b + c) = W' (128 * a' + r) (128 * b' + c)) : amax W a b = amax W' a' b' := by
  unfold amax
  refine Finset.sup_congr rfl fun p _ => ?_
  rw [h _ _ p.1.isLt p.2.isLt]

theorem amax_nonneg (W : ℕ → ℕ → EReal) (a b : ℕ) : 0 ≤ amax W a b := by
  refine le_trans ?_ (Finset.le_sup (f := fun p : Fin 128 × Fin 128 => max (W (128 * a + p.1) (128 * b + p.2)) (-(W (128 * a + p.1) (128 * b + p.2)))) (Finset.mem_univ (0, 0)))
  rcases le_total 0 (W (128 * a + ((0 : Fin 128) : ℕ)) (128 * b + ((0 : Fin 128) : ℕ))) with h | h
  · exact le_max_of_le_left h
  · exact le_max_of_le_right (EReal.neg_nonneg.2 h)

/-- Over a table of magnitudes up to `2 ^ 130` the kernel's scales and the reference's are equal. -/
theorem scales_eq {W : ℕ → ℕ → EReal} (h : ∀ r c, max (W r c) (-(W r c)) ≤ ((2 ^ 130 : ℝ) : EReal)) (a b : ℕ) :
    Scale.scaleK (ratio W a b) = Scale.scaleR (ratio W a b) ∧ Scale.invK (ratio W a b) = Scale.invR (ratio W a b) := by
  obtain ⟨h0, h1⟩ := Gelu.ratio_bound (amax_nonneg W a b) (Finset.sup_le fun p _ => h _ _)
  exact ⟨Scale.scale_eq h0 h1, Scale.inv_eq h0 h1⟩

theorem codes_eq {W : ℕ → ℕ → EReal} (h : ∀ r c, max (W r c) (-(W r c)) ≤ ((2 ^ 130 : ℝ) : EReal)) (r c : ℕ) :
    code Scale.invK W r c = code Scale.invR W r c := by
  unfold code; rw [(scales_eq h _ _).2]

/-- The maximum of the column maxima of a block is its maximum. -/
theorem fold_fold {W : ℕ → ℕ → EReal} {a b : ℕ} (f : Fin 128 → Fin 128 → EReal)
    (h : ∀ r c, f r c = max (W (128 * a + r) (128 * b + c)) (-(W (128 * a + r) (128 * b + c)))) :
    Finset.fold max (Ideal.ofBits FTy.f32 0xFF800000#32)
      (fun c => Finset.fold max (Ideal.ofBits FTy.f32 0xFF800000#32) (fun r => f r c) Finset.univ) Finset.univ = amax W a b := by
  have hb : Ideal.ofBits FTy.f32 0xFF800000#32 = ⊥ := by simp [Ideal.ofBits, Ideal.ieee]
  rw [hb]
  show Finset.univ.sup (fun c => Finset.univ.sup fun r => f r c) = _
  unfold amax
  simp only [h]
  refine le_antisymm (Finset.sup_le fun c _ => Finset.sup_le fun r _ => ?_) (Finset.sup_le fun p _ => ?_)
  · exact Finset.le_sup (f := fun p : Fin 128 × Fin 128 => max (W (128 * a + p.1) (128 * b + p.2)) (-(W (128 * a + p.1) (128 * b + p.2)))) (Finset.mem_univ (r, c))
  · exact le_trans (Finset.le_sup (f := fun r : Fin 128 => max (W (128 * a + r) (128 * b + p.2)) (-(W (128 * a + r) (128 * b + p.2)))) (Finset.mem_univ p.1))
      (Finset.le_sup (f := fun c : Fin 128 => Finset.univ.sup fun r : Fin 128 => max (W (128 * a + r) (128 * b + c)) (-(W (128 * a + r) (128 * b + c)))) (Finset.mem_univ p.2))

end Cert.Table

end
-- ==== Proof.BlockValue.lean ====
/-
  What the kernel computes for one block, at the ideal values and element by element: over a table `W` that holds the
  block's values at block `(a, b)`, the codes and the scale are those of `Proof/Table.lean`.
-/
module

public import proofs.«01_k».proof.Proof.Block
public import proofs.«01_k».proof.Proof.Table

@[expose] public section

set_option maxRecDepth 16384

noncomputable section

namespace Cert.KernelIdeal.Block

open Cert.KernelIdeal Cert.KernelIdeal.Gen Idealize.ShloMosaic

theorem val_apply (g x : Vec Ideal S128x128 .bf16) (r c : Fin 128) : val g x (ix2 r c) = Gelu.val (g (ix2 r c)) (x (ix2 r c)) := by
  rfl

/-- The block's values are those of `W` at block `(a, b)`. -/
def Holds (W : ℕ → ℕ → EReal) (a b : ℕ) (g x : Vec Ideal S128x128 .bf16) : Prop :=
  ∀ r c : Fin 128, val g x (ix2 r c) = W (128 * a + r) (128 * b + c)

variable {W : ℕ → ℕ → EReal} {a b : ℕ} {g x : Vec Ideal S128x128 .bf16}

theorem addSums_apply (h : Holds W a b g x) (acc : Vec Ideal S8x128 .f32) (r : Fin 8) (l : Fin 128) :
    addSums g x acc (ix2 r l) = acc (ix2 r l) + ∑ p : Fin 16, W (128 * a + (8 * p + r)) (128 * b + l) := by
  have hv : ∀ p : Fin 16, k0_pay4 g x (ix2 ⟨p * 8 + r, by omega⟩ l) = W (128 * a + (8 * p + r)) (128 * b + l) := fun p => by
    have := h ⟨p * 8 + r, by omega⟩ l
    rw [show 8 * p.val + r.val = p.val * 8 + r.val by omega]
    exact this
  unfold addSums k0_pay5
  generalize k0_pay4 g x = v at hv
  pointwise
  exact congrArg _ (Finset.sum_congr rfl fun p _ => hv p)

theorem ratio_apply (h : Holds W a b g x) (r : Fin 8) (l : Fin 128) : ratio (val g x) (ix2 r l) = Table.ratio W a b := by
  unfold ratio k0_pay6 Table.ratio
  unfold Holds at h
  generalize val g x = v at h
  pointwise
  rw [Table.fold_fold (W := W) (a := a) (b := b) (fun r c => FloatOps.absf (v (ix2 r c))) fun r c => by rw [h]; rfl]

theorem step_apply (y : FVec Ideal S8x128 .f32) (bit : BitVec 32) (e : IVec S8x128 32) (r : Fin 8) (l : Fin 128) :
    step y bit e (ix2 r l) = Scale.step (y (ix2 r l)) bit (e (ix2 r l)) := by
  unfold step
  pointwise
  rfl

theorem field_apply (y : FVec Ideal S8x128 .f32) (r : Fin 8) (l : Fin 128) : field y (ix2 r l) = Scale.field (y (ix2 r l)) := by
  unfold field
  simp only [step_apply]
  rfl

theorem field'_apply (e : IVec S8x128 32) (r : Fin 8) (l : Fin 128) : field' e (ix2 r l) = Scale.field' (e (ix2 r l)) := by
  unfold field' Scale.field'
  pointwise
  generalize e (ix2 r l) = w
  by_cases h0 : w = 0#32
  · subst h0; decide
  · by_cases h1 : w = 255#32
    · subst h1; decide
    · have h0' : (w == 0#32) = false := beq_eq_false_iff_ne.2 h0
      have h1' : (w == 255#32) = false := beq_eq_false_iff_ne.2 h1
      simp [h0, h1, h0', h1', IntOp.cmpi, IntOp.ori, Scalar.select]

theorem fieldOf_apply (h : Holds W a b g x) (r : Fin 8) (l : Fin 128) :
    fieldOf g x (ix2 r l) = Scale.field' (Scale.field (Table.ratio W a b)) := by
  unfold fieldOf
  rw [field'_apply, field_apply, ratio_apply h]

theorem codes_apply (h : Holds W a b g x) (r c : Fin 128) : codes g x (ix2 r c) = Table.code Scale.invK W (128 * a + r) (128 * b + c) := by
  have hf := fieldOf_apply h
  unfold Holds at h
  unfold codes k0_pay1 Table.code
  pointwise [inv]
  rw [hf, h, show (128 * a + r.val) / 128 = a by omega, show (128 * b + c.val) / 128 = b by omega]
  rfl

theorem codesT_apply (h : Holds W a b g x) (r c : Fin 128) : codesT g x (ix2 c r) = Table.code Scale.invK W (128 * a + r) (128 * b + c) := by
  rw [← codes_apply h]
  unfold codesT
  generalize codes g x = v
  pointwise

theorem scaleOut_apply (h : Holds W a b g x) (z : Fin 1) (s : Fin 8) (l : Fin 128) :
    scaleOut g x (ix3 z s l) = Scale.scaleK (Table.ratio W a b) := by
  have hf := fieldOf_apply h
  unfold scaleOut scale
  pointwise
  rw [hf]
  rfl

end Cert.KernelIdeal.Block

end
-- ==== Proof.Pieces.lean ====
/-
  The stores of one grid point, as lists: each of its 32 blocks stores its scale, its codes, its transposed codes, and the
  running column sums. Block `k` lies at rows `128 (k / 8)` and columns `128 (k % 8)` of the point's 512 × 1024 input blocks.
-/
module

public import proofs.«01_k».proof.Proof.Block
public import Idealize.ShloMosaic.Lib.Tactic

@[expose] public section

set_option maxRecDepth 16384

noncomputable section

namespace Cert.KernelIdeal.Pieces

open Cert.KernelIdeal Cert.KernelIdeal.Gen Cert.KernelIdeal.Block Idealize.ShloMosaic Idealize.ShloMosaic.TcCoe

variable {F : FTy → Type} [FloatOps F]

/-- Block `k` of a grid point's 512 × 1024 inputs, -/
abbrev inRect (k : ℕ) : Rect S512x1024 := Rect.unit (s := S512x1024) ![128 * (k / 8 % 4), 128 * (k % 8)] S128x128.size (by
  intro a; match a with
    | ⟨0, _⟩ => show 128 * (k / 8 % 4) + 128 ≤ 512; omega
    | ⟨1, _⟩ => show 128 * (k % 8) + 128 ≤ 1024; omega)

/-- of its transposed codes, -/
abbrev colRect (k : ℕ) : Rect S1024x512 := Rect.unit (s := S1024x512) ![128 * (k % 8), 128 * (k / 8 % 4)] S128x128.size (by
  intro a; match a with
    | ⟨0, _⟩ => show 128 * (k % 8) + 128 ≤ 1024; omega
    | ⟨1, _⟩ => show 128 * (k / 8 % 4) + 128 ≤ 512; omega)

/-- of its scales, -/
abbrev scaleRect (k : ℕ) : Rect S4x8x1024 := Rect.unit (s := S4x8x1024) ![k / 8 % 4, 0, 128 * (k % 8)] S1x8x128.size (by
  intro a; match a with
    | ⟨0, _⟩ => show k / 8 % 4 + 1 ≤ 4; omega
    | ⟨1, _⟩ => show 0 + 8 ≤ 8; omega
    | ⟨2, _⟩ => show 128 * (k % 8) + 128 ≤ 1024; omega)

/-- and of its column sums. -/
abbrev sumRect (k : ℕ) : Rect S8x1024 := Rect.unit (s := S8x1024) ![0, 128 * (k % 8)] S8x128.size (by
  intro a; match a with
    | ⟨0, _⟩ => show 0 + 8 ≤ 8; omega
    | ⟨1, _⟩ => show 128 * (k % 8) + 128 ≤ 1024; omega)

/-- The blocks, last first. -/
abbrev blocks : List ℕ := [31, 30, 29, 28, 27, 26, 25, 24, 23, 22, 21, 20, 19, 18, 17, 16, 15, 14, 13, 12, 11, 10, 9, 8, 7, 6, 5, 4, 3, 2, 1, 0]

/-- Block `k` as it is loaded from an input's staging buffer that holds `x`. -/
abbrev load (arg : Memref sig .tc .vmem S512x1024 .bf16) (harg : arg.IsWhole) (x : Vec F S512x1024 .bf16) (k : ℕ) : Vec F S128x128 .bf16 :=
  arg.view.readAt (Elt F) (inRect k).toLoadRect (harg.unread x)

/-- The stores of the column sums at the first point of a column of points, the last of `n` blocks first: zeros, then each
    block adds its sums to what it reads back. -/
def sumsFrom (arg4 : Memref sig .tc .vmem S8x1024 .f32) (g x : ℕ → Vec F S128x128 .bf16) : ℕ → List (View.Piece (Elt F) S8x1024 .f32)
  | 0 => [⟨Rect.unit (s := S8x1024) ![0, 0] S8x1024.size inb_S8x1024_S8x1024_0_0, k0_pay3⟩]
  | k + 1 => ⟨sumRect k, addSums (g k) (x k) (arg4.view.readCov (sumsFrom arg4 g x k) (sumRect k).toLoadRect)⟩ :: sumsFrom arg4 g x k

/-- The same at every other point: the first eight blocks read what the point before left, `acc`. -/
def sumsOnto (arg4 : Memref sig .tc .vmem S8x1024 .f32) (harg4 : arg4.IsWhole) (acc : Vec F S8x1024 .f32) (g x : ℕ → Vec F S128x128 .bf16) : ℕ → List (View.Piece (Elt F) S8x1024 .f32)
  | 0 => []
  | k + 1 => ⟨sumRect k, addSums (g k) (x k) (if k < 8 then arg4.view.readAt (Elt F) (sumRect k).toLoadRect (harg4.unread acc)
      else arg4.view.readCov (sumsOnto arg4 harg4 acc g x k) (sumRect k).toLoadRect)⟩ :: sumsOnto arg4 harg4 acc g x k

section
variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S8x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x1024 .f32) (harg7 : arg7.IsWhole)
  (x0 : Vec F S512x1024 .bf16) (x1 : Vec F S512x1024 .bf16) (xo2 : Vec F S8x1024 .f32)

theorem rows_A (hc0 : cond0_0 i) :
    (kernelRun0_A c i arg2 harg2 arg3 harg3 arg4 harg4 arg5 harg5 arg6 harg6 arg7 harg7 hc0 x0 x1).2.1
      = blocks.map fun k => (⟨inRect k, codes (load arg2 harg2 x0 k) (load arg3 harg3 x1 k)⟩ : View.Piece (Elt F) S512x1024 .fp8e5m2) := by
  sl_kernel_rfl

theorem cols_A (hc0 : cond0_0 i) :
    (kernelRun0_A c i arg2 harg2 arg3 harg3 arg4 harg4 arg5 harg5 arg6 harg6 arg7 harg7 hc0 x0 x1).2.2.1
      = blocks.map fun k => (⟨colRect k, codesT (load arg2 harg2 x0 k) (load arg3 harg3 x1 k)⟩ : View.Piece (Elt F) S1024x512 .fp8e5m2) := by
  sl_kernel_rfl

theorem scales_A (hc0 : cond0_0 i) :
    (kernelRun0_A c i arg2 harg2 arg3 harg3 arg4 harg4 arg5 harg5 arg6 harg6 arg7 harg7 hc0 x0 x1).2.2.2.1
      = blocks.map fun k => (⟨scaleRect k, scaleOut (load arg2 harg2 x0 k) (load arg3 harg3 x1 k)⟩ : View.Piece (Elt F) S4x8x1024 .f32) := by
  sl_kernel_rfl

theorem rows_B (hc0 : ¬ cond0_0 i) :
    (kernelRun0_B c i arg2 harg2 arg3 harg3 arg4 harg4 arg5 harg5 arg6 harg6 arg7 harg7 hc0 x0 x1 xo2).2.1
      = blocks.map fun k => (⟨inRect k, codes (load arg2 harg2 x0 k) (load arg3 harg3 x1 k)⟩ : View.Piece (Elt F) S512x1024 .fp8e5m2) := by
  sl_kernel_rfl

theorem cols_B (hc0 : ¬ cond0_0 i) :
    (kernelRun0_B c i arg2 harg2 arg3 harg3 arg4 harg4 arg5 harg5 arg6 harg6 arg7 harg7 hc0 x0 x1 xo2).2.2.1
      = blocks.map fun k => (⟨colRect k, codesT (load arg2 harg2 x0 k) (load arg3 harg3 x1 k)⟩ : View.Piece (Elt F) S1024x512 .fp8e5m2) := by
  sl_kernel_rfl

theorem scales_B (hc0 : ¬ cond0_0 i) :
    (kernelRun0_B c i arg2 harg2 arg3 harg3 arg4 harg4 arg5 harg5 arg6 harg6 arg7 harg7 hc0 x0 x1 xo2).2.2.2.1
      = blocks.map fun k => (⟨scaleRect k, scaleOut (load arg2 harg2 x0 k) (load arg3 harg3 x1 k)⟩ : View.Piece (Elt F) S4x8x1024 .f32) := by
  sl_kernel_rfl

theorem sums_A (hc0 : cond0_0 i) :
    (kernelRun0_A c i arg2 harg2 arg3 harg3 arg4 harg4 arg5 harg5 arg6 harg6 arg7 harg7 hc0 x0 x1).1
      = sumsFrom arg4 (load arg2 harg2 x0) (load arg3 harg3 x1) 32 := by
  sl_kernel_rfl

theorem sums_B (hc0 : ¬ cond0_0 i) :
    (kernelRun0_B c i arg2 harg2 arg3 harg3 arg4 harg4 arg5 harg5 arg6 harg6 arg7 harg7 hc0 x0 x1 xo2).1
      = sumsOnto arg4 harg4 xo2 (load arg2 harg2 x0) (load arg3 harg3 x1) 32 := by
  sl_kernel_rfl

end

end Cert.KernelIdeal.Pieces

end
-- ==== Proof.PointValue.lean ====
/-
  What one grid point leaves in its staging buffers, at the ideal values: the codes, the transposed codes and the scales of
  the point's 512 × 1024 input blocks, and the column sums it found with its own rows added.
-/
module

public import proofs.«01_k».proof.Proof.BlockValue
public import proofs.«01_k».proof.Proof.Pieces

@[expose] public section

set_option maxRecDepth 16384

noncomputable section

namespace Cert.KernelIdeal.Point

open Cert.KernelIdeal Cert.KernelIdeal.Gen Cert.KernelIdeal.Block Cert.KernelIdeal.Pieces Idealize.ShloMosaic Idealize.ShloMosaic.TcCoe

section Loads

variable (arg2 : Memref sig .tc .vmem S512x1024 .bf16) (harg2 : arg2.IsWhole) (arg3 : Memref sig .tc .vmem S512x1024 .bf16) (harg3 : arg3.IsWhole)
  (x0 x1 : Vec Ideal S512x1024 .bf16)

theorem load_apply (k : ℕ) (r c : Fin 128) :
    Pieces.load arg2 harg2 x0 k (ix2 r c) = x0 (Table.at2 (128 * (k / 8 % 4) + r) (128 * (k % 8) + c)) := by
  unfold Pieces.load
  rw [View.readAt_eq_ld, harg2.read_unread]
  refine congrArg x0 (funext fun a => Fin.ext ?_)
  match a with
  | ⟨0, _⟩ => exact (show 128 * (k / 8 % 4) + 1 * r.val = (128 * (k / 8 % 4) + r.val) % 512 by omega)
  | ⟨1, _⟩ => exact (show 128 * (k % 8) + 1 * c.val = (128 * (k % 8) + c.val) % 1024 by omega)

theorem load_holds (k : ℕ) : Holds (Table.vals x0 x1) (k / 8 % 4) (k % 8) (Pieces.load arg2 harg2 x0 k) (Pieces.load arg3 harg3 x1 k) := fun r c => by
  rw [val_apply, load_apply, load_apply]; rfl

/-! ### Codes and scales -/

theorem rows_canon (y : S512x1024.Idx)
    (hy : ∃ p ∈ (blocks.map fun k => (⟨inRect k, codes (Pieces.load arg2 harg2 x0 k) (Pieces.load arg3 harg3 x1 k)⟩ : View.Piece (Elt Ideal) S512x1024 .fp8e5m2)), y ∈ p.1.set) :
    View.canon (blocks.map fun k => (⟨inRect k, codes (Pieces.load arg2 harg2 x0 k) (Pieces.load arg3 harg3 x1 k)⟩ : View.Piece (Elt Ideal) S512x1024 .fp8e5m2)) y
      = Table.code Scale.invK (Table.vals x0 x1) (y 0).val (y 1).val := by
  refine View.canon_apply_of_pieces (fun y : S512x1024.Idx => (Table.code Scale.invK (Table.vals x0 x1) (y 0).val (y 1).val : EReal)) _ (fun p hp x => ?_) y hy
  obtain ⟨k, -, rfl⟩ := List.mem_map.1 hp
  obtain ⟨r, c, rfl⟩ : ∃ (r c : Fin 128), x = ix2 r c := ⟨x 0, x 1, eq_ix2 x⟩
  refine (codes_apply (load_holds arg2 harg2 arg3 harg3 x0 x1 k) r c).trans ?_
  show _ = Table.code _ _ (128 * (k / 8 % 4) + 1 * r.val) (128 * (k % 8) + 1 * c.val)
  rw [Nat.one_mul, Nat.one_mul]

theorem cols_canon (y : S1024x512.Idx)
    (hy : ∃ p ∈ (blocks.map fun k => (⟨colRect k, codesT (Pieces.load arg2 harg2 x0 k) (Pieces.load arg3 harg3 x1 k)⟩ : View.Piece (Elt Ideal) S1024x512 .fp8e5m2)), y ∈ p.1.set) :
    View.canon (blocks.map fun k => (⟨colRect k, codesT (Pieces.load arg2 harg2 x0 k) (Pieces.load arg3 harg3 x1 k)⟩ : View.Piece (Elt Ideal) S1024x512 .fp8e5m2)) y
      = Table.code Scale.invK (Table.vals x0 x1) (y 1).val (y 0).val := by
  refine View.canon_apply_of_pieces (fun y : S1024x512.Idx => (Table.code Scale.invK (Table.vals x0 x1) (y 1).val (y 0).val : EReal)) _ (fun p hp x => ?_) y hy
  obtain ⟨k, -, rfl⟩ := List.mem_map.1 hp
  obtain ⟨c, r, rfl⟩ : ∃ (c r : Fin 128), x = ix2 c r := ⟨x 0, x 1, eq_ix2 x⟩
  refine (codesT_apply (load_holds arg2 harg2 arg3 harg3 x0 x1 k) r c).trans ?_
  show _ = Table.code _ _ (128 * (k / 8 % 4) + 1 * r.val) (128 * (k % 8) + 1 * c.val)
  rw [Nat.one_mul, Nat.one_mul]

theorem scales_canon (y : S4x8x1024.Idx)
    (hy : ∃ p ∈ (blocks.map fun k => (⟨scaleRect k, scaleOut (Pieces.load arg2 harg2 x0 k) (Pieces.load arg3 harg3 x1 k)⟩ : View.Piece (Elt Ideal) S4x8x1024 .f32)), y ∈ p.1.set) :
    View.canon (blocks.map fun k => (⟨scaleRect k, scaleOut (Pieces.load arg2 harg2 x0 k) (Pieces.load arg3 harg3 x1 k)⟩ : View.Piece (Elt Ideal) S4x8x1024 .f32)) y
      = Scale.scaleK (Table.ratio (Table.vals x0 x1) (y 0).val ((y 2).val / 128)) := by
  refine View.canon_apply_of_pieces (fun y : S4x8x1024.Idx => (Scale.scaleK (Table.ratio (Table.vals x0 x1) (y 0).val ((y 2).val / 128)) : EReal)) _ (fun p hp x => ?_) y hy
  obtain ⟨k, -, rfl⟩ := List.mem_map.1 hp
  obtain ⟨z, s, l, rfl⟩ : ∃ (z : Fin 1) (s : Fin 8) (l : Fin 128), x = ix3 z s l := ⟨x 0, x 1, x 2, eq_ix3 x⟩
  refine (scaleOut_apply (load_holds arg2 harg2 arg3 harg3 x0 x1 k) z s l).trans ?_
  show _ = Scale.scaleK (Table.ratio _ (k / 8 % 4 + 1 * z.val) ((128 * (k % 8) + 1 * l.val) / 128))
  rw [show k / 8 % 4 + 1 * z.val = k / 8 % 4 by omega, show (128 * (k % 8) + 1 * l.val) / 128 = k % 8 by omega]

end Loads

/-! ### The column sums -/

section Sums

variable (W : ℕ → ℕ → EReal)

/-- What block `k` adds to row `r`, column `c` of the column sums. -/
def part (k r c : ℕ) : EReal := if c / 128 = k % 8 then ∑ p : Fin 16, W (128 * (k / 8 % 4) + (8 * p + r)) c else 0

/-- One block's store of column sums, over the stores `L` before it, where its load gave the contents `prior`. -/
theorem canon_sums (k : ℕ) {g x : Vec Ideal S128x128 .bf16} (H : Holds W (k / 8 % 4) (k % 8) g x) (old : Vec Ideal S8x128 .f32)
    (prior : S8x1024.Idx → EReal) (hold : ∀ j, old j = prior ((sumRect k).idx j)) (L : List (View.Piece (Elt Ideal) S8x1024 .f32))
    (r : Fin 8) (c : Fin 1024) :
    View.canon ((⟨sumRect k, addSums g x old⟩ : View.Piece (Elt Ideal) S8x1024 .f32) :: L) (ix2 r c)
      = if c.val / 128 = k % 8 then prior (ix2 r c) + part W k r c else View.canon L (ix2 r c) := by
  split
  · rename_i hc
    have hi : (sumRect k).emb (ix2 r ⟨c.val % 128, Nat.mod_lt _ (by omega)⟩ : S8x128.Idx) = ix2 r c := by
      refine funext fun a => Fin.ext ?_
      match a with
      | ⟨0, _⟩ => show 0 + 1 * r.val = r.val; omega
      | ⟨1, _⟩ => show 128 * (k % 8) + 1 * (c.val % 128) = c.val; omega
    rw [← hi]
    refine (View.canon_cons_emb (sumRect k) (addSums g x old) L _).trans ?_
    rw [addSums_apply H, hold]
    rw [show (sumRect k).idx (ix2 r ⟨c.val % 128, Nat.mod_lt _ (by omega)⟩ : S8x128.Idx) = ix2 r c from hi]
    unfold part
    rw [if_pos hc, hi, show 128 * (k % 8) + c.val % 128 = c.val by omega]
  · rename_i hc
    refine View.canon_cons_of_not_mem _ L fun hm => hc ?_
    have h1 : 128 * (k % 8) ≤ c.val ∧ c.val < 128 * (k % 8) + 128 :=
      Rect.mem_set_unit.1 (show ix2 r c ∈ (sumRect k).set from hm) (1 : Fin 2)
    omega

variable (arg4 : Memref sig .tc .vmem S8x1024 .f32) (harg4 : arg4.IsWhole) (g x : ℕ → Vec Ideal S128x128 .bf16)
  (H : ∀ k, Holds W (k / 8 % 4) (k % 8) (g k) (x k))

include H in
/-- The column sums after `n` blocks, at the first point of a column of points. -/
theorem sumsFrom_canon (n : ℕ) (r : Fin 8) (c : Fin 1024) :
    View.canon (sumsFrom arg4 g x n) (ix2 r c) = ∑ k ∈ Finset.range n, part W k r c := by
  induction n generalizing r c with
  | zero =>
    rw [Finset.sum_range_zero]
    have h0 : (![0, 0] : Fin S8x1024.rank → ℕ) = fun _ => 0 := by decide
    refine (congrFun (View.canon_cons_unit_zero (Val := Elt Ideal) (S := S8x1024) (e := .f32) h0 inb_S8x1024_S8x1024_0_0 (k0_pay3 (F := Ideal)) []) _).trans ?_
    exact Ideal.ofBits_zero_f32
  | succ n ih =>
    rw [sumsFrom, canon_sums W n (H n) _ (View.canon (sumsFrom arg4 g x n)) (fun j => by rw [View.readCov_eq_canon']), Finset.sum_range_succ, ih]
    split
    · rfl
    · rename_i hc; rw [part, if_neg hc, add_zero]

include H in
/-- The column sums after `n` blocks at every other point, in the columns those blocks have stored. -/
theorem sumsOnto_canon (acc : Vec Ideal S8x1024 .f32) (n : ℕ) (r : Fin 8) (c : Fin 1024) (hc : 8 ≤ n ∨ c.val / 128 < n) :
    View.canon (sumsOnto arg4 harg4 acc g x n) (ix2 r c) = acc (ix2 r c) + ∑ k ∈ Finset.range n, part W k r c := by
  induction n generalizing r c with
  | zero => omega
  | succ n ih =>
    rw [sumsOnto]
    by_cases hn : n < 8
    · rw [if_pos hn, canon_sums W n (H n) _ acc (fun j => by rw [View.readAt_eq_ld, harg4.read_unread]), Finset.sum_range_succ]
      split
      · rename_i hk
        rw [Finset.sum_eq_zero (fun k hk' => by rw [part, if_neg (by have := Finset.mem_range.1 hk'; omega)]), zero_add]
      · rename_i hk
        rw [ih r c (by omega), part, if_neg hk, add_zero]
    · rw [if_neg hn, canon_sums W n (H n) _ (View.canon (sumsOnto arg4 harg4 acc g x n)) (fun j => by rw [View.readCov_eq_canon']),
        Finset.sum_range_succ, ih r c (by omega)]
      split
      · rw [add_assoc]
      · rename_i hk; rw [part, if_neg hk, add_zero]

end Sums

end Cert.KernelIdeal.Point

end
-- ==== Proof.Points.lean ====
/-
  What every point of the grid leaves in its staging buffers, by the table of the whole arrays. Point `t` reads rows
  `512 * (t % 62) …` and columns `1024 * (t / 62) …`; the column sums run over the points of one column of blocks.
-/
module

public import proofs.«01_k».proof.Proof.PointValue

@[expose] public section

set_option maxRecDepth 16384

noncomputable section

namespace Cert.KernelIdeal.Point

open Cert.KernelIdeal Cert.KernelIdeal.Gen Cert.KernelIdeal.Block Cert.KernelIdeal.Pieces Idealize.ShloMosaic Idealize.ShloMosaic.TcCoe

/-- All 32 blocks of a point together: each column's rows `r`, `r + 8`, … of the 512. -/
theorem sum_part (W : ℕ → ℕ → EReal) (r c : ℕ) (hc : c < 1024) :
    ∑ k ∈ Finset.range 32, part W k r c = ∑ q ∈ Finset.range 64, W (8 * q + r) c := by
  have h : ∀ (f : ℕ → EReal) (j : ℕ), j < 8 → (∑ k ∈ Finset.range 32, if j = k % 8 then f (k / 8 % 4) else 0) = ∑ a ∈ Finset.range 4, f a := by
    intro f j hj
    rw [show (32 : ℕ) = 4 * 8 from rfl, Table.sum_range_mul]
    refine Finset.sum_congr rfl fun a ha => ?_
    have ha := Finset.mem_range.1 ha
    rw [Finset.sum_eq_single_of_mem j (Finset.mem_range.2 hj) (fun b hb hbj => if_neg (by have := Finset.mem_range.1 hb; omega)),
      if_pos (by omega), show (8 * a + j) / 8 % 4 = a by omega]
  unfold part
  rw [h (fun a => ∑ p : Fin 16, W (128 * a + (8 * p + r)) c) (c / 128) (by omega), show (64 : ℕ) = 4 * 16 from rfl, Table.sum_range_mul]
  refine Finset.sum_congr rfl fun a _ => ?_
  rw [Finset.sum_range fun p => W (8 * (16 * a + p) + r) c]
  refine Finset.sum_congr rfl fun p _ => congrArg (W · c) (by omega)

variable (m : (ℓ : Loc nD τ sig) → Buf (Elt Ideal) ℓ) (c : Dev nD)

/-- The table of the whole arrays. -/
def table : ℕ → ℕ → EReal :=
  Table.vals (n := 31744) (m := 4096) (m ((c : Thread nD τ).loc main_arg0)) (m ((c : Thread nD τ).loc main_arg1))

/-- The table of a point's blocks. -/
def tableAt (t : Fin cfg0.N) : ℕ → ℕ → EReal := Table.vals (n := 512) (m := 1024) (iblk m c 0 t) (iblk m c 1 t)

theorem index0 : ∀ t : Fin grid0.N, win0_0.index t 0 = t.val % 62 ∧ win0_0.index t 1 = t.val / 62 := by decide +kernel
theorem index1 : ∀ t : Fin grid0.N, win0_1.index t 0 = t.val % 62 ∧ win0_1.index t 1 = t.val / 62 := by decide +kernel

theorem lt_N (t : Fin cfg0.N) : t.val < 248 := lt_of_lt_of_eq t.isLt (show cfg0.N = 248 from N_0)

theorem iblk0_apply (t : Fin cfg0.N) (r k : ℕ) (hr : r < 512) (hk : k < 1024) :
    (iblk m c 0 t : Vec Ideal S512x1024 .bf16) (Table.at2 r k)
      = m ((c : Thread nD τ).loc main_arg0) (Table.at2 (n := 31744) (m := 4096) (512 * (t.val % 62) + r) (1024 * (t.val / 62) + k)) := by
  have := lt_N t
  unfold iblk
  rw [View.read_apply]
  show V m c main_arg0 _ = _
  rw [V_main_arg0]
  refine congrArg (m ((c : Thread nD τ).loc main_arg0)) (funext fun a => Fin.ext ?_)
  match a with
  | ⟨0, _⟩ => exact (show win0_0.index t 0 * 512 + 1 * (r % 512) = (512 * (t.val % 62) + r) % 31744 by rw [(index0 t).1]; omega)
  | ⟨1, _⟩ => exact (show win0_0.index t 1 * 1024 + 1 * (k % 1024) = (1024 * (t.val / 62) + k) % 4096 by rw [(index0 t).2]; omega)

theorem iblk1_apply (t : Fin cfg0.N) (r k : ℕ) (hr : r < 512) (hk : k < 1024) :
    (iblk m c 1 t : Vec Ideal S512x1024 .bf16) (Table.at2 r k)
      = m ((c : Thread nD τ).loc main_arg1) (Table.at2 (n := 31744) (m := 4096) (512 * (t.val % 62) + r) (1024 * (t.val / 62) + k)) := by
  have := lt_N t
  unfold iblk
  rw [View.read_apply]
  show V m c main_arg1 _ = _
  rw [V_main_arg1]
  refine congrArg (m ((c : Thread nD τ).loc main_arg1)) (funext fun a => Fin.ext ?_)
  match a with
  | ⟨0, _⟩ => exact (show win0_1.index t 0 * 512 + 1 * (r % 512) = (512 * (t.val % 62) + r) % 31744 by rw [(index1 t).1]; omega)
  | ⟨1, _⟩ => exact (show win0_1.index t 1 * 1024 + 1 * (k % 1024) = (1024 * (t.val / 62) + k) % 4096 by rw [(index1 t).2]; omega)

/-- A point's table is its part of the whole one. -/
theorem tableAt_eq (t : Fin cfg0.N) (r k : ℕ) (hr : r < 512) (hk : k < 1024) :
    tableAt m c t r k = table m c (512 * (t.val % 62) + r) (1024 * (t.val / 62) + k) := by
  unfold tableAt table Table.vals
  rw [iblk0_apply m c t r k hr hk, iblk1_apply m c t r k hr hk]

/-- So its blocks' ratios are the whole one's, -/
theorem ratioAt_eq (t : Fin cfg0.N) (a b : ℕ) (ha : a < 4) (hb : b < 8) :
    Table.ratio (tableAt m c t) a b = Table.ratio (table m c) (4 * (t.val % 62) + a) (8 * (t.val / 62) + b) := by
  unfold Table.ratio
  refine congrArg (· * _) (Table.amax_shift fun r k hr hk => ?_)
  rw [tableAt_eq m c t _ _ (by omega) (by omega)]
  exact congrArg₂ _ (by omega) (by omega)

/-- and its codes the whole one's. -/
theorem codeAt_eq (t : Fin cfg0.N) (r k : ℕ) (hr : r < 512) (hk : k < 1024) (inv : EReal → EReal) :
    Table.code inv (tableAt m c t) r k = Table.code inv (table m c) (512 * (t.val % 62) + r) (1024 * (t.val / 62) + k) := by
  unfold Table.code
  rw [ratioAt_eq m c t _ _ (by omega) (by omega), tableAt_eq m c t r k hr hk,
    show 4 * (t.val % 62) + r / 128 = (512 * (t.val % 62) + r) / 128 by omega, show 8 * (t.val / 62) + k / 128 = (1024 * (t.val / 62) + k) / 128 by omega]

theorem rows_at (t : Fin cfg0.N) (y : S512x1024.Idx) :
    (outsAt0 m c t.val t.isLt).2.1 y = Table.code Scale.invK (tableAt m c t) (y 0).val (y 1).val := by
  by_cases h0 : t.val % 62 = 0
  · rw [outsAt0_A m c t h0]
    dsimp only
    unfold out0_A_3
    rw [View.read_writes_eq_canon _ _ _ (cover0_A_3 _ _ _ _ _ _ _ _ _ _ _ _ _ _ _ _ _)]
    have hy := cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) y
    rw [rows_A] at hy ⊢
    exact rows_canon _ _ _ _ _ _ y hy
  · rw [outsAt0_B m c t h0]
    dsimp only
    unfold out0_B_3
    rw [View.read_writes_eq_canon _ _ _ (cover0_B_3 _ _ _ _ _ _ _ _ _ _ _ _ _ _ _ _ _ _)]
    have hy := cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 y
    rw [rows_B] at hy ⊢
    exact rows_canon _ _ _ _ _ _ y hy

theorem cols_at (t : Fin cfg0.N) (y : S1024x512.Idx) :
    (outsAt0 m c t.val t.isLt).2.2.1 y = Table.code Scale.invK (tableAt m c t) (y 1).val (y 0).val := by
  by_cases h0 : t.val % 62 = 0
  · rw [outsAt0_A m c t h0]
    dsimp only
    unfold out0_A_4
    rw [View.read_writes_eq_canon _ _ _ (cover0_A_4 _ _ _ _ _ _ _ _ _ _ _ _ _ _ _ _ _)]
    have hy := cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) y
    rw [cols_A] at hy ⊢
    exact cols_canon _ _ _ _ _ _ y hy
  · rw [outsAt0_B m c t h0]
    dsimp only
    unfold out0_B_4
    rw [View.read_writes_eq_canon _ _ _ (cover0_B_4 _ _ _ _ _ _ _ _ _ _ _ _ _ _ _ _ _ _)]
    have hy := cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 y
    rw [cols_B] at hy ⊢
    exact cols_canon _ _ _ _ _ _ y hy

theorem scales_at (t : Fin cfg0.N) (y : S4x8x1024.Idx) :
    (outsAt0 m c t.val t.isLt).2.2.2 y = Scale.scaleK (Table.ratio (tableAt m c t) (y 0).val ((y 2).val / 128)) := by
  by_cases h0 : t.val % 62 = 0
  · rw [outsAt0_A m c t h0]
    dsimp only
    unfold out0_A_5
    rw [View.read_writes_eq_canon _ _ _ (cover0_A_5 _ _ _ _ _ _ _ _ _ _ _ _ _ _ _ _ _)]
    have hy := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) y
    rw [scales_A] at hy ⊢
    exact scales_canon _ _ _ _ _ _ y hy
  · rw [outsAt0_B m c t h0]
    dsimp only
    unfold out0_B_5
    rw [View.read_writes_eq_canon _ _ _ (cover0_B_5 _ _ _ _ _ _ _ _ _ _ _ _ _ _ _ _ _ _)]
    have hy := cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 y
    rw [scales_B] at hy ⊢
    exact scales_canon _ _ _ _ _ _ y hy

/-- The column sums after point `t`: over the points so far of its column of blocks. -/
theorem sums_at (n : ℕ) (hn : n < cfg0.N) (r : Fin 8) (k : Fin 1024) :
    (outsAt0 m c n hn).1 (ix2 r k)
      = ∑ i ∈ Finset.range (n % 62 + 1), ∑ q ∈ Finset.range 64, table m c (512 * i + (8 * q + r.val)) (1024 * (n / 62) + k.val) := by
  have step : ∀ (t : Fin cfg0.N), ∑ b ∈ Finset.range 32, part (tableAt m c t) b r k
      = ∑ q ∈ Finset.range 64, table m c (512 * (t.val % 62) + (8 * q + r.val)) (1024 * (t.val / 62) + k.val) := fun t => by
    rw [sum_part _ _ _ k.isLt]
    refine Finset.sum_congr rfl fun q hq => tableAt_eq m c t _ _ ?_ k.isLt
    have := Finset.mem_range.1 hq
    omega
  induction n with
  | zero =>
    refine (congrFun (congrArg Prod.fst (outsAt0_A m c ⟨0, hn⟩ rfl)) _).trans ?_
    dsimp only
    unfold out0_A_2
    rw [View.read_writes_eq_canon _ _ _ (cover0_A_2 _ _ _ _ _ _ _ _ _ _ _ _ _ _ _ _ _), sums_A]
    refine (sumsFrom_canon (tableAt m c ⟨0, hn⟩) _ _ _ (load_holds _ _ _ _ _ _) 32 r k).trans ?_
    rw [step]; simp only [Nat.zero_mod, Nat.zero_add, Finset.sum_range_one]
  | succ n ih =>
    by_cases h0 : (n + 1) % 62 = 0
    · refine (congrFun (congrArg Prod.fst (outsAt0_A m c ⟨n + 1, hn⟩ h0)) _).trans ?_
      dsimp only
      unfold out0_A_2
      rw [View.read_writes_eq_canon _ _ _ (cover0_A_2 _ _ _ _ _ _ _ _ _ _ _ _ _ _ _ _ _), sums_A]
      refine (sumsFrom_canon (tableAt m c ⟨n + 1, hn⟩) _ _ _ (load_holds _ _ _ _ _ _) 32 r k).trans ?_
      rw [step]
      simp only [h0, Nat.zero_add, Finset.sum_range_one]
    · refine (congrFun (congrArg Prod.fst (outsAt0_B m c ⟨n + 1, hn⟩ h0)) _).trans ?_
      dsimp only
      unfold out0_B_2
      rw [View.read_writes_eq_canon _ _ _ (cover0_B_2 _ _ _ _ _ _ _ _ _ _ _ _ _ _ _ _ _ _), sums_B]
      refine (sumsOnto_canon (tableAt m c ⟨n + 1, hn⟩) _ _ _ _ (load_holds _ _ _ _ _ _) _ 32 r k (Or.inl (by omega))).trans ?_
      rw [step]
      refine (congrArg (· + _) (ih (Nat.lt_of_succ_lt hn))).trans ?_
      rw [show (n + 1) % 62 = n % 62 + 1 by omega, show (n + 1) / 62 = n / 62 by omega]
      exact (Finset.sum_range_succ _ _).symm

end Cert.KernelIdeal.Point

end
-- ==== Proof.Arrays.lean ====
/-
  What the kernel's four result arrays hold after the last point, by the table of the whole arrays: each block is written
  back as its point left it, and the blocks cover the arrays.
-/
module

public import proofs.«01_k».proof.Proof.Points

@[expose] public section

set_option maxRecDepth 16384

noncomputable section

namespace Cert.KernelIdeal.Arrays

open Cert.KernelIdeal Cert.KernelIdeal.Gen Cert.KernelIdeal.Point Idealize.ShloMosaic Idealize.ShloMosaic.TcCoe
open Idealize.ShloMosaic.Pipeline (Dat)

variable (m : (ℓ : Loc nD τ sig) → Buf (Elt Ideal) ℓ) (c : Dev nD)

theorem index2 : ∀ t : Fin grid0.N, win0_2.index t 0 = 0 ∧ win0_2.index t 1 = t.val / 62 := by decide +kernel
theorem index3 : ∀ t : Fin grid0.N, win0_3.index t 0 = t.val % 62 ∧ win0_3.index t 1 = t.val / 62 := by decide +kernel
theorem index4 : ∀ t : Fin grid0.N, win0_4.index t 0 = t.val / 62 ∧ win0_4.index t 1 = t.val % 62 := by decide +kernel
theorem index5 : ∀ t : Fin grid0.N, win0_5.index t 0 = t.val % 62 ∧ win0_5.index t 1 = 0 ∧ win0_5.index t 2 = t.val / 62 := by decide +kernel

/-- Point `i` of column `j`. -/
theorem point (i j : ℕ) (hi : i < 62) (hj : j < 4) : ∃ t : Fin cfg0.N, t.val = 62 * j + i :=
  ⟨⟨62 * j + i, lt_of_lt_of_eq (by omega) (show 248 = cfg0.N from N_0.symm)⟩, rfl⟩

/-- The column sums: every eighth row, from row `r` on. -/
def sums (W : ℕ → ℕ → EReal) : S8x4096.Idx → EReal := fun y => ∑ q ∈ Finset.range 3968, W (8 * q + (y 0).val) (y 1).val

theorem arr2 : (dats m 0 c).arrAt 2 cfg0.N = sums (table m c) := by
  refine (dats m 0 c).arrAt_eq_of_cover 2 (sums (table m c)) (fun t hf => ?_) fun i => ?_
  · have hf := (flush0_2 t).1 hf
    funext y
    show (cfg0.win 2).cut (grid0.coords t) ((dats m 0 c).after 2 t) y = _
    rw [after0_2, View.read_apply]
    have h0 : (y 0).val < 8 := (y 0).isLt
    have h1 : (y 1).val < 1024 := (y 1).isLt
    have hy : (y : S8x1024.Idx) = ix2 ⟨(y 0).val, h0⟩ ⟨(y 1).val, h1⟩ := funext fun a => by match a with | ⟨0, _⟩ => rfl | ⟨1, _⟩ => rfl
    refine (congrArg (outsAt0 m c t.val t.isLt).1 hy).trans ((sums_at m c t.val t.isLt ⟨_, h0⟩ ⟨_, h1⟩).trans ?_)
    show _ = ∑ q ∈ Finset.range 3968, table m c (8 * q + (win0_2.index t 0 * 8 + 1 * (y 0).val)) (win0_2.index t 1 * 1024 + 1 * (y 1).val)
    rw [(index2 t).1, (index2 t).2, hf, show (3968 : ℕ) = 62 * 64 from rfl, Table.sum_range_mul]
    refine Finset.sum_congr rfl fun i _ => Finset.sum_congr rfl fun q _ => ?_
    exact congrArg₂ _ (by dsimp only; omega) (by dsimp only; omega)
  · have h0 : (i 0 : Nat) < 8 := (i 0).isLt
    have h1 : (i 1 : Nat) < 4096 := (i 1).isLt
    obtain ⟨t, ht⟩ := point 61 ((i 1 : Nat) / 1024) (by omega) (by omega)
    refine ⟨t, (flush0_2 _).2 (by omega), ?_⟩
    show i ∈ ((View.whole main_v0_0).slice (win0_2.rect t)).set
    rw [View.set_slice_whole, Rect.mem_set_unit]
    intro a
    match a with
    | ⟨0, _⟩ =>
      show win0_2.index t 0 * 8 ≤ (i 0 : Nat) ∧ (i 0 : Nat) < win0_2.index t 0 * 8 + 8
      rw [(index2 t).1]; omega
    | ⟨1, _⟩ =>
      show win0_2.index t 1 * 1024 ≤ (i 1 : Nat) ∧ (i 1 : Nat) < win0_2.index t 1 * 1024 + 1024
      rw [(index2 t).2]; omega

theorem arr3 : (dats m 0 c).arrAt 3 cfg0.N = fun y : S31744x4096.Idx => Table.code Scale.invK (table m c) (y 0).val (y 1).val := by
  refine (dats m 0 c).arrAt_eq_of_cover 3 (fun y : S31744x4096.Idx => (Table.code Scale.invK (table m c) (y 0).val (y 1).val : EReal)) (fun t _ => ?_) fun i => ?_
  · funext y
    show (cfg0.win 3).cut (grid0.coords t) ((dats m 0 c).after 3 t) y = _
    rw [after0_3, View.read_apply]
    have h0 : (y 0).val < 512 := (y 0).isLt
    have h1 : (y 1).val < 1024 := (y 1).isLt
    refine (rows_at m c t y).trans ((codeAt_eq m c t _ _ h0 h1 _).trans ?_)
    show Table.code _ _ _ _ = Table.code _ _ (win0_3.index t 0 * 512 + 1 * (y 0).val) (win0_3.index t 1 * 1024 + 1 * (y 1).val)
    rw [(index3 t).1, (index3 t).2, Nat.one_mul, Nat.one_mul, Nat.mul_comm, Nat.mul_comm (t.val / 62)]
  · have h0 : (i 0 : Nat) < 31744 := (i 0).isLt
    have h1 : (i 1 : Nat) < 4096 := (i 1).isLt
    obtain ⟨t, ht⟩ := point ((i 0 : Nat) / 512) ((i 1 : Nat) / 1024) (by omega) (by omega)
    refine ⟨t, flush0_3 t, ?_⟩
    show i ∈ ((View.whole main_v0_1).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(index3 t).1]; omega
    | ⟨1, _⟩ =>
      show win0_3.index t 1 * 1024 ≤ (i 1 : Nat) ∧ (i 1 : Nat) < win0_3.index t 1 * 1024 + 1024
      rw [(index3 t).2]; omega

theorem arr4 : (dats m 0 c).arrAt 4 cfg0.N = fun y : S4096x31744.Idx => Table.code Scale.invK (table m c) (y 1).val (y 0).val := by
  refine (dats m 0 c).arrAt_eq_of_cover 4 (fun y : S4096x31744.Idx => (Table.code Scale.invK (table m c) (y 1).val (y 0).val : EReal)) (fun t _ => ?_) fun i => ?_
  · funext y
    show (cfg0.win 4).cut (grid0.coords t) ((dats m 0 c).after 4 t) y = _
    rw [after0_4, View.read_apply]
    have h0 : (y 0).val < 1024 := (y 0).isLt
    have h1 : (y 1).val < 512 := (y 1).isLt
    refine (cols_at m c t y).trans ((codeAt_eq m c t _ _ h1 h0 _).trans ?_)
    show Table.code _ _ _ _ = Table.code _ _ (win0_4.index t 1 * 512 + 1 * (y 1).val) (win0_4.index t 0 * 1024 + 1 * (y 0).val)
    rw [(index4 t).1, (index4 t).2, Nat.one_mul, Nat.one_mul, Nat.mul_comm, Nat.mul_comm (t.val / 62)]
  · have h0 : (i 0 : Nat) < 4096 := (i 0).isLt
    have h1 : (i 1 : Nat) < 31744 := (i 1).isLt
    obtain ⟨t, ht⟩ := point ((i 1 : Nat) / 512) ((i 0 : Nat) / 1024) (by omega) (by omega)
    refine ⟨t, flush0_4 t, ?_⟩
    show i ∈ ((View.whole main_v0_2).slice (win0_4.rect t)).set
    rw [View.set_slice_whole, Rect.mem_set_unit]
    intro a
    match a with
    | ⟨0, _⟩ =>
      show win0_4.index t 0 * 1024 ≤ (i 0 : Nat) ∧ (i 0 : Nat) < win0_4.index t 0 * 1024 + 1024
      rw [(index4 t).1]; omega
    | ⟨1, _⟩ =>
      show win0_4.index t 1 * 512 ≤ (i 1 : Nat) ∧ (i 1 : Nat) < win0_4.index t 1 * 512 + 512
      rw [(index4 t).2]; omega

theorem arr5 : (dats m 0 c).arrAt 5 cfg0.N = fun y : S248x8x4096.Idx => Scale.scaleK (Table.ratio (table m c) (y 0).val ((y 2).val / 128)) := by
  refine (dats m 0 c).arrAt_eq_of_cover 5 (fun y : S248x8x4096.Idx => (Scale.scaleK (Table.ratio (table m c) (y 0).val ((y 2).val / 128)) : EReal)) (fun t _ => ?_) fun i => ?_
  · funext y
    show (cfg0.win 5).cut (grid0.coords t) ((dats m 0 c).after 5 t) y = _
    rw [after0_5, View.read_apply]
    have h0 : (y 0).val < 4 := (y 0).isLt
    have h2 : (y 2).val < 1024 := (y 2).isLt
    refine (scales_at m c t y).trans ?_
    rw [show Table.ratio (tableAt m c t) _ _ = _ from ratioAt_eq m c t _ _ h0 (show (y 2).val / 128 < 8 by omega)]
    show Scale.scaleK (Table.ratio _ _ _) = Scale.scaleK (Table.ratio _ (win0_5.index t 0 * 4 + 1 * (y 0).val) ((win0_5.index t 2 * 1024 + 1 * (y 2).val) / 128))
    rw [(index5 t).1, (index5 t).2.2, show t.val % 62 * 4 + 1 * (y 0).val = 4 * (t.val % 62) + (y 0).val by omega,
      show (t.val / 62 * 1024 + 1 * (y 2).val) / 128 = 8 * (t.val / 62) + (y 2).val / 128 by omega]
  · have h0 : (i 0 : Nat) < 248 := (i 0).isLt
    have h1 : (i 1 : Nat) < 8 := (i 1).isLt
    have h2 : (i 2 : Nat) < 4096 := (i 2).isLt
    obtain ⟨t, ht⟩ := point ((i 0 : Nat) / 4) ((i 2 : Nat) / 1024) (by omega) (by omega)
    refine ⟨t, flush0_5 t, ?_⟩
    show i ∈ ((View.whole main_v0_3).slice (win0_5.rect t)).set
    rw [View.set_slice_whole, Rect.mem_set_unit]
    intro a
    match a with
    | ⟨0, _⟩ =>
      show win0_5.index t 0 * 4 ≤ (i 0 : Nat) ∧ (i 0 : Nat) < win0_5.index t 0 * 4 + 4
      rw [(index5 t).1]; omega
    | ⟨1, _⟩ =>
      show win0_5.index t 1 * 8 ≤ (i 1 : Nat) ∧ (i 1 : Nat) < win0_5.index t 1 * 8 + 8
      rw [(index5 t).2.1]; omega
    | ⟨2, _⟩ =>
      show win0_5.index t 2 * 1024 ≤ (i 2 : Nat) ∧ (i 2 : Nat) < win0_5.index t 2 * 1024 + 1024
      rw [(index5 t).2.2]; omega

end Cert.KernelIdeal.Arrays

end
-- ==== Proof.KernelRun.lean ====
/-
  What the kernel's program ends with: its four results by the table of the whole arrays, its arguments unchanged. The
  host adds the eight rows of column sums together and keeps one of each scale's copies.
-/
module

public import proofs.«01_k».proof.Proof.Arrays
public import Idealize.ShloMosaic.Lib.StableHlo.ReadAt

@[expose] public section

set_option maxRecDepth 16384

noncomputable section

namespace Cert.KernelIdeal.KernelRun

open Cert.KernelIdeal Cert.KernelIdeal.Gen Cert.KernelIdeal.Point Idealize.ShloMosaic Idealize.ShloMosaic.TcCoe Idealize.SL.Sem

variable (m : (ℓ : Loc nD τ sig) → Buf (Elt Ideal) ℓ) (ρ : Dev nD → PrngReg) (c : Dev nD)

/-- The memory the host's last lines run from. -/
def V1 : Valuation τ sig (Elt Ideal) := Pipeline.withArrays (cfgs 0).spec c (V0 m c) fun w => (dats m 0 c).arrAt w (cfgs 0).N

theorem V1_sums : V1 m c (Proc.devRef .tc main_v0_0) = Arrays.sums (table m c) :=
  (Pipeline.withArrays_arr spec0 (by decide) c (V0 m c) _ 2).trans (Arrays.arr2 m c)

theorem V1_scales : V1 m c (Proc.devRef .tc main_v0_3) = fun y : S248x8x4096.Idx => Scale.scaleK (Table.ratio (table m c) (y 0).val ((y 2).val / 128)) :=
  (Pipeline.withArrays_arr spec0 (by decide) c (V0 m c) _ 5).trans (Arrays.arr5 m c)

theorem tail_sums (y : S4096.Idx) :
    Pipeline.afterTail₀ cfgs (dats m) 0 (V0 m) [hostOps1] c main_v1 y = ∑ R ∈ Finset.range 31744, table m c R (y 0).val := by
  show StableHlo.after (List.flatten [hostOps1]) (V1 m c) (Proc.devRef .tc main_v1) y = _
  obtain ⟨k, rfl⟩ : ∃ k : Fin 4096, y = ix1 k := ⟨y 0, eq_ix1 y⟩
  simp only [hostOps1, List.flatten_cons, List.flatten_nil, List.append_nil]
  after_reads_at
  rw [V1_sums, show (31744 : ℕ) = 3968 * 8 from rfl, Table.sum_range_mul, Finset.sum_comm]
  simp only [Arrays.sums]
  exact (Finset.sum_range fun s => ∑ q ∈ Finset.range 3968, table m c (8 * q + s) k.val).symm

theorem tail_scales (a : Fin 248) (b : Fin 32) :
    Pipeline.afterTail₀ cfgs (dats m) 0 (V0 m) [hostOps1] c main_v3 (ix2 a b) = Scale.scaleK (Table.ratio (table m c) a b) := by
  show StableHlo.after (List.flatten [hostOps1]) (V1 m c) (Proc.devRef .tc main_v3) (ix2 a b) = _
  simp only [hostOps1, List.flatten_cons, List.flatten_nil, List.append_nil]
  after_reads_at
  rw [V1_scales]
  show Scale.scaleK (Table.ratio (table m c) a.val (128 * b.val / 128)) = _
  rw [Nat.mul_div_cancel_left _ (by decide)]

/-- The four results and the two arguments after every run. -/
theorem run : θ_run defs (onTc (τ := τ) (main (F := Ideal))) ⟨m, fun _ => 0, ρ⟩ fun r => ∀ c : Dev nD,
      r.2.mem ((c : Thread nD τ).loc main_v1) = (fun y : S4096.Idx => ∑ R ∈ Finset.range 31744, table m c R (y 0).val)
      ∧ r.2.mem ((c : Thread nD τ).loc main_v0_1) = (fun y : S31744x4096.Idx => Table.code Scale.invK (table m c) (y 0).val (y 1).val)
      ∧ r.2.mem ((c : Thread nD τ).loc main_v0_2) = (fun y : S4096x31744.Idx => Table.code Scale.invK (table m c) (y 1).val (y 0).val)
      ∧ r.2.mem ((c : Thread nD τ).loc main_v3) = (fun y : S248x32.Idx => Scale.scaleK (Table.ratio (table m c) (y 0).val (y 1).val))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (Pipeline.mem_restRefs_of main_v1 (by decide) (by decide))).trans (funext fun y => tail_sums m c y),
      ((h c).1 3).trans (Arrays.arr3 m c),
      ((h c).1 4).trans (Arrays.arr4 m c),
      ((h c).2 main_v3 (Pipeline.mem_restRefs_of main_v3 (by decide) (by decide))).trans (funext fun y => by
        rw [show y = ix2 (y 0) (y 1) from eq_ix2 y]; exact tail_scales m c (y 0) (y 1)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.ReferenceHost.lean ====
/-
  The reference's host lines, cut into the few arrays that the proof speaks of: the carried-back gradients, the blocks'
  ratios, the scales' exponents, the scales and their reciprocals.
-/
module

public import proofs.«01_k».proof.Proof.Gen.ReferenceIdeal.Value
public import Idealize.ShloMosaic.Lib.StableHlo.ReadAt

@[expose] public section

set_option maxRecDepth 16384

noncomputable section

namespace Cert.ReferenceIdeal.RefHost

open Cert.ReferenceIdeal Cert.ReferenceIdeal.Gen Idealize.ShloMosaic Idealize.ShloMosaic.TcCoe

variable {F : FTy → Type} [FloatOps F]
variable (m : (ℓ : Loc nD τ sig) → Buf (Elt F) ℓ) (c : Dev nD)

theorem v31_eq : V m c main_v31 = Host.reduceAdd (Host.reduceAdd (shapeCast S248x128x4096 (V m c main_v28 : Vec F S31744x4096 .f32) shapeCasts_S31744x4096_S248x128x4096)
    (constant S_ .f32 0x00000000#32) reducesTo_S248x128x4096_S248x4096_d1 h_S_) (constant S_ .f32 0x00000000#32) reducesTo_S248x4096_S4096_d0 h_S_ := by
  unfold V
  simp only [hostOps0, hostOps0_1, hostOps0_2, List.flatten_cons, List.flatten_nil, List.append_nil, List.cons_append, List.nil_append]
  after_reads_simp
  all_goals try simp -implicitDefEqProofs only [StableHlo.TRef.toBuf, StableHlo.TRef.ofBuf, cast_cast, cast_eq]
  all_goals rfl

theorem v34_eq : V m c main_v34 = Host.reduce FloatOps.maximumf (Host.absf (shapeCast S248x128x32x128 (V m c main_v28 : Vec F S31744x4096 .f32) shapeCasts_S31744x4096_S248x128x32x128))
    (constant S_ .f32 0xFF800000#32) reducesTo_S248x128x32x128_S248x32_d1_3 h_S_ := by
  unfold V
  simp only [hostOps0, hostOps0_1, hostOps0_2, List.flatten_cons, List.flatten_nil, List.append_nil, List.cons_append, List.nil_append]
  after_reads_simp
  all_goals try simp -implicitDefEqProofs only [StableHlo.TRef.toBuf, StableHlo.TRef.ofBuf, cast_cast, cast_eq]
  all_goals rfl

theorem v36_eq : V m c main_v36 = mulf (V m c main_v34 : Vec F S248x32 .f32) (broadcastInDim S248x32 ![] bcast_S_S248x32 (constant S_ .f32 0x37924925#32)) := by
  unfold V
  simp only [hostOps0, hostOps0_1, hostOps0_2, List.flatten_cons, List.flatten_nil, List.append_nil, List.cons_append, List.nil_append]
  after_reads_simp
  all_goals try simp -implicitDefEqProofs only [StableHlo.TRef.toBuf, StableHlo.TRef.ofBuf, cast_cast, cast_eq]
  all_goals rfl

theorem v37_eq : V m c main_v37 = broadcastInDim S248x32 ![] bcast_S_S248x32 (constant S_ .f32 0x40000000#32) := by
  unfold V
  simp only [hostOps0, hostOps0_1, hostOps0_2, List.flatten_cons, List.flatten_nil, List.append_nil, List.cons_append, List.nil_append]
  after_reads_simp
  all_goals try simp -implicitDefEqProofs only [StableHlo.TRef.toBuf, StableHlo.TRef.ofBuf, cast_cast, cast_eq]
  all_goals rfl

theorem v46_eq : V m c main_v46 = select (cmpf .olt (V m c main_v36 : Vec F S248x32 .f32) (broadcastInDim S248x32 ![] bcast_S_S248x32 (constant S_ .f32 0x00800000#32)))
    (broadcastInDim S248x32 ![] bcast_S_S248x32 (constant S_ .f32 0x00000000#32))
    (addf (Host.floor (Host.divf (Host.log (V m c main_v36 : Vec F S248x32 .f32)) (Host.log (V m c main_v37 : Vec F S248x32 .f32))))
      (broadcastInDim S248x32 ![] bcast_S_S248x32 (constant S_ .f32 0x3F800000#32))) := by
  unfold V
  simp only [hostOps0, hostOps0_1, hostOps0_2, List.flatten_cons, List.flatten_nil, List.append_nil, List.cons_append, List.nil_append]
  after_reads_simp
  all_goals try simp -implicitDefEqProofs only [StableHlo.TRef.toBuf, StableHlo.TRef.ofBuf, cast_cast, cast_eq]
  all_goals rfl

theorem v47_eq : V m c main_v47 = Host.powf (V m c main_v37 : Vec F S248x32 .f32) (V m c main_v46 : Vec F S248x32 .f32) := by
  unfold V
  simp only [hostOps0, hostOps0_1, hostOps0_2, List.flatten_cons, List.flatten_nil, List.append_nil, List.cons_append, List.nil_append]
  after_reads_simp
  all_goals try simp -implicitDefEqProofs only [StableHlo.TRef.toBuf, StableHlo.TRef.ofBuf, cast_cast, cast_eq]
  all_goals rfl

theorem v52_eq : V m c main_v52 = shapeCast S31744x4096 (broadcastInDim S248x128x32x128 ![0, 1, 2, 3] bcast_S248x1x32x1_S248x128x32x128_0_1_2_3
    (broadcastInDim S248x1x32x1 ![0, 2] bcast_S248x32_S248x1x32x1_0_2
      (Host.powf (V m c main_v37 : Vec F S248x32 .f32) (Host.negf (V m c main_v46 : Vec F S248x32 .f32))))) shapeCasts_S248x128x32x128_S31744x4096 := by
  unfold V
  simp only [hostOps0, hostOps0_1, hostOps0_2, List.flatten_cons, List.flatten_nil, List.append_nil, List.cons_append, List.nil_append]
  after_reads_simp
  all_goals try simp -implicitDefEqProofs only [StableHlo.TRef.toBuf, StableHlo.TRef.ofBuf, cast_cast, cast_eq]
  all_goals rfl

end Cert.ReferenceIdeal.RefHost

end
-- ==== Proof.ReferenceValue.lean ====
/-
  What the reference's host lines compute, by the table of its arguments.
-/
module

public import proofs.«01_k».proof.Proof.Table
public import proofs.«01_k».proof.Proof.ReferenceHost

@[expose] public section

set_option maxRecDepth 16384

noncomputable section

namespace Cert.ReferenceIdeal.RefValue

open Cert.ReferenceIdeal Cert.ReferenceIdeal.Gen Idealize.ShloMosaic Idealize.ShloMosaic.TcCoe

variable (m : (ℓ : Loc nD τ sig) → Buf (Elt Ideal) ℓ) (c : Dev nD)

/-- The table of the reference's arguments. -/
def table : ℕ → ℕ → EReal :=
  Table.vals (n := 31744) (m := 4096) (m ((c : Thread nD τ).loc main_arg0)) (m ((c : Thread nD τ).loc main_arg1))

theorem vals_apply (r : Fin 31744) (k : Fin 4096) : V m c main_v28 (ix2 r k) = table m c r k := by
  unfold V
  simp only [hostOps0, hostOps0_1, hostOps0_2, List.flatten_cons, List.flatten_nil, List.append_nil, List.cons_append, List.nil_append]
  after_reads_at
  rw [table, Table.vals_ix2]
  simp only [Gelu.val, Gelu.deriv, Gelu.tnh, Gelu.one_eq, EReal.coe_one]

/-- The column sums: the blocks' sums added up are the sum over all rows. -/
theorem sums_apply (k : Fin 4096) : V m c main_v31 (ix1 k) = ∑ R ∈ Finset.range 31744, table m c R k := by
  have hv := vals_apply m c
  rw [RefHost.v31_eq]
  generalize V m c main_v28 = v at hv
  clean_types
  pointwise
  simp only [hv]
  rw [show (31744 : ℕ) = 248 * 128 from rfl, Table.sum_range_mul, Finset.sum_range]
  refine Finset.sum_congr rfl fun a _ => ?_
  rw [Finset.sum_range]
  refine Finset.sum_congr rfl fun b _ => ?_
  rw [Nat.mul_comm]

end Cert.ReferenceIdeal.RefValue

end
-- ==== Proof.BlockMax.lean ====
/-
  The reference takes a block's greatest magnitude in one reduction of the array reshaped to four axes.
-/
module

public import proofs.«01_k».proof.Proof.Table
public import proofs.«01_k».proof.Proof.ReferenceHost

@[expose] public section

set_option maxRecDepth 16384

noncomputable section

namespace Cert.ReferenceIdeal.BlockMax

open Cert.ReferenceIdeal Cert.ReferenceIdeal.Gen Idealize.ShloMosaic Idealize.ShloMosaic.TcCoe

variable (W : ℕ → ℕ → EReal)

/-- One element of the array whose blocks' greatest the reference takes. -/
theorem abs_apply (v : S31744x4096.Idx → Ideal .f32) (hv : ∀ (r : Fin 31744) (k : Fin 4096), v (ix2 r k) = W r k)
    (i0 : Fin 248) (i1 : Fin 128) (i2 : Fin 32) (i3 : Fin 128) :
    Host.absf (F := Ideal) (φ := .f32) (shapeCast S248x128x32x128 v shapeCasts_S31744x4096_S248x128x32x128) (ix4 i0 i1 i2 i3)
      = max (W (128 * i0 + i1) (128 * i2 + i3)) (-(W (128 * i0 + i1) (128 * i2 + i3))) := by
  pointwise
  rw [hv]
  show max (W (i0.val * 128 + i1.val) (i2.val * 128 + i3.val)) (-(W (i0.val * 128 + i1.val) (i2.val * 128 + i3.val))) = _
  rw [Nat.mul_comm i0.val, Nat.mul_comm i2.val]

/-- An index of the four axes is reduced into its first and third coordinates. -/
theorem drop_ix (i0 : Fin 248) (i1 : Fin 128) (i2 : Fin 32) (i3 : Fin 128) :
    reducesTo_S248x128x32x128_S248x32_d1_3.drop (ix4 i0 i1 i2 i3) = ix2 i0 i2 := by
  funext k
  refine Fin.ext ?_
  match k with
  | ⟨0, _⟩ => exact Shape.ReducesTo.drop_apply_val_of_eq reducesTo_S248x128x32x128_S248x32_d1_3 (ix4 i0 i1 i2 i3) (0 : Fin 2) (0 : Fin 4)
  | ⟨1, _⟩ => exact Shape.ReducesTo.drop_apply_val_of_eq reducesTo_S248x128x32x128_S248x32_d1_3 (ix4 i0 i1 i2 i3) (1 : Fin 2) (2 : Fin 4)

/-- The greatest over the second and fourth axes, from the least element on, is the block's greatest magnitude. -/
theorem max_eq (v : S248x128x32x128.Idx → Ideal .f32)
    (hv : ∀ (i0 : Fin 248) (i1 : Fin 128) (i2 : Fin 32) (i3 : Fin 128), v (ix4 i0 i1 i2 i3)
      = max (W (128 * i0 + i1) (128 * i2 + i3)) (-(W (128 * i0 + i1) (128 * i2 + i3)))) (a : Fin 248) (b : Fin 32) :
    Host.reduce (FloatOps.maximumf (F := Ideal) (φ := .f32)) v (constant S_ .f32 0xFF800000#32) reducesTo_S248x128x32x128_S248x32_d1_3 h_S_ (ix2 a b)
      = Table.amax W a b := by
  rw [Host.reduce_eq_fold]
  have hb : Ideal.ofBits FTy.f32 0xFF800000#32 = ⊥ := by simp [Ideal.ofBits, Ideal.ieee]
  show Finset.fold max (Ideal.ofBits FTy.f32 0xFF800000#32) v _ = _
  rw [hb]
  refine le_antisymm ((Finset.fold_max_le _).2 ⟨bot_le, fun i hi => ?_⟩)
    (Finset.sup_le fun p _ => (Finset.le_fold_max _).2 (Or.inr ⟨ix4 a p.1 b p.2, ?_, (hv _ _ _ _).ge⟩))
  · obtain ⟨i0, i1, i2, i3, rfl⟩ : ∃ (i0 : Fin 248) (i1 : Fin 128) (i2 : Fin 32) (i3 : Fin 128), i = ix4 i0 i1 i2 i3 :=
      ⟨i 0, i 1, i 2, i 3, eq_ix4 i⟩
    have hd := (Finset.mem_filter.1 hi).2
    rw [drop_ix, ix2_inj] at hd
    obtain ⟨rfl, rfl⟩ := hd
    rw [hv]
    exact Finset.le_sup (f := fun p : Fin 128 × Fin 128 => max (W (128 * i0 + p.1) (128 * i2 + p.2)) (-(W (128 * i0 + p.1) (128 * i2 + p.2))))
      (Finset.mem_univ (i1, i3))
  · exact Finset.mem_filter.2 ⟨Finset.mem_univ _, drop_ix _ _ _ _⟩

/-- The reference's greatest magnitude of a block is the table's. -/
theorem amax_eq (v : S31744x4096.Idx → Ideal .f32) (hv : ∀ (r : Fin 31744) (k : Fin 4096), v (ix2 r k) = W r k) (a : Fin 248) (b : Fin 32) :
    Host.reduce (FloatOps.maximumf (F := Ideal) (φ := .f32)) (Host.absf (F := Ideal) (φ := .f32) (shapeCast S248x128x32x128 v shapeCasts_S31744x4096_S248x128x32x128))
      (constant S_ .f32 0xFF800000#32) reducesTo_S248x128x32x128_S248x32_d1_3 h_S_ (ix2 a b) = Table.amax W a b :=
  max_eq W _ (abs_apply W v hv) a b

end Cert.ReferenceIdeal.BlockMax

end
-- ==== Proof.HostLines.lean ====
/-
  What one element of each of the reference's scale arrays is, over any arrays it is computed from.
-/
module

public import proofs.«01_k».proof.Proof.Table
public import proofs.«01_k».proof.Proof.ReferenceHost
public import Idealize.ShloMosaic.Lib.Pointwise

@[expose] public section

set_option maxRecDepth 16384

noncomputable section

namespace Cert.ReferenceIdeal.HostLines

open Cert.ReferenceIdeal Cert.ReferenceIdeal.Gen Idealize.ShloMosaic Idealize.ShloMosaic.TcCoe

variable (v : S248x32.Idx → Ideal .f32) (a : Fin 248) (b : Fin 32)

/-- The base of the powers. -/
theorem two_apply : broadcastInDim S248x32 ![] bcast_S_S248x32 (constant (F := Ideal) S_ .f32 0x40000000#32) (ix2 a b) = Ideal.ofBits .f32 0x40000000#32 := by
  pointwise

/-- A block's greatest magnitude over 57344. -/
theorem ratio_apply : mulf (F := Ideal) (φ := .f32) v (broadcastInDim S248x32 ![] bcast_S_S248x32 (constant S_ .f32 0x37924925#32)) (ix2 a b)
    = (v (ix2 a b) * Ideal.ofBits .f32 0x37924925#32 : EReal) := by
  pointwise

/-- The exponent of its scale. -/
theorem exponent_apply (w : S248x32.Idx → Ideal .f32) (hw : w (ix2 a b) = Ideal.ofBits .f32 0x40000000#32) :
    select (cmpf (F := Ideal) (φ := .f32) .olt v (broadcastInDim S248x32 ![] bcast_S_S248x32 (constant S_ .f32 0x00800000#32)))
      (broadcastInDim S248x32 ![] bcast_S_S248x32 (constant (F := Ideal) S_ .f32 0x00000000#32))
      (addf (F := Ideal) (φ := .f32) (Host.floor (Host.divf (Host.log v) (Host.log w))) (broadcastInDim S248x32 ![] bcast_S_S248x32 (constant S_ .f32 0x3F800000#32))) (ix2 a b)
      = Scale.expR (v (ix2 a b)) := by
  pointwise
  rw [hw, Scale.expR, Ideal.ofBits_zero, Gelu.one_eq, EReal.coe_one]

/-- The scale. -/
theorem scale_apply (w : S248x32.Idx → Ideal .f32) (hw : w (ix2 a b) = Ideal.ofBits .f32 0x40000000#32) :
    Host.powf (F := Ideal) (φ := .f32) w v (ix2 a b) = Ideal.pow (Ideal.ofBits .f32 0x40000000#32) (v (ix2 a b)) := by
  pointwise
  rw [hw]

/-- The reciprocals, spread over the elements of the blocks. -/
theorem inverse_apply (w : S248x32.Idx → Ideal .f32) (hw : ∀ (a : Fin 248) (b : Fin 32), w (ix2 a b) = Ideal.ofBits .f32 0x40000000#32) (r : Fin 31744) (k : Fin 4096)  :
    shapeCast S31744x4096 (broadcastInDim S248x128x32x128 ![0, 1, 2, 3] bcast_S248x1x32x1_S248x128x32x128_0_1_2_3
      (broadcastInDim S248x1x32x1 ![0, 2] bcast_S248x32_S248x1x32x1_0_2 (Host.powf (F := Ideal) (φ := .f32) w (Host.negf v)))) shapeCasts_S248x128x32x128_S31744x4096 (ix2 r k)
      = Ideal.pow (Ideal.ofBits .f32 0x40000000#32) (-(v (ix2 ⟨r.val / 128, by omega⟩ ⟨k.val / 128, by omega⟩) : EReal)) := by
  pointwise
  rw [hw]

end Cert.ReferenceIdeal.HostLines

end
-- ==== Proof.ReferenceScale.lean ====
/-
  The reference's scales, by the table of its arguments.
-/
module

public import proofs.«01_k».proof.Proof.ReferenceValue
public import proofs.«01_k».proof.Proof.BlockMax
public import proofs.«01_k».proof.Proof.HostLines

@[expose] public section

set_option maxRecDepth 16384

noncomputable section

namespace Cert.ReferenceIdeal.RefValue

open Cert.ReferenceIdeal Cert.ReferenceIdeal.Gen Idealize.ShloMosaic Idealize.ShloMosaic.TcCoe

variable (m : (ℓ : Loc nD τ sig) → Buf (Elt Ideal) ℓ) (c : Dev nD)

/-- The blocks' greatest magnitudes. -/
theorem amax_apply (a : Fin 248) (b : Fin 32) : V m c main_v34 (ix2 a b) = Table.amax (table m c) a b := by
  have hv := vals_apply m c
  rw [RefHost.v34_eq]
  generalize V m c main_v28 = v at hv ⊢
  exact BlockMax.amax_eq (table m c) v hv a b

/-- Those, over 57344. -/
theorem ratio_apply (a : Fin 248) (b : Fin 32) : V m c main_v36 (ix2 a b) = Table.ratio (table m c) a b := by
  have hv := amax_apply m c a b
  rw [RefHost.v36_eq]
  generalize V m c main_v34 = v at hv ⊢
  refine (HostLines.ratio_apply v a b).trans ?_
  rw [hv, Table.ratio]

theorem two_apply (a : Fin 248) (b : Fin 32) : V m c main_v37 (ix2 a b) = Ideal.ofBits .f32 0x40000000#32 := by
  rw [RefHost.v37_eq]
  exact HostLines.two_apply a b

/-- The exponents of the scales. -/
theorem exponents_apply (a : Fin 248) (b : Fin 32) : V m c main_v46 (ix2 a b) = Scale.expR (Table.ratio (table m c) a b) := by
  have hv := ratio_apply m c a b
  have hw := two_apply m c a b
  rw [RefHost.v46_eq]
  generalize V m c main_v36 = v at hv ⊢
  generalize V m c main_v37 = w at hw ⊢
  refine (HostLines.exponent_apply v a b w hw).trans ?_
  rw [hv]

/-- The scales. -/
theorem scales_apply (a : Fin 248) (b : Fin 32) : V m c main_v47 (ix2 a b) = Scale.scaleR (Table.ratio (table m c) a b) := by
  have hv := exponents_apply m c a b
  have hw := two_apply m c a b
  rw [RefHost.v47_eq]
  generalize V m c main_v46 = v at hv ⊢
  generalize V m c main_v37 = w at hw ⊢
  refine (HostLines.scale_apply v a b w hw).trans ?_
  rw [hv, Scale.scaleR]

/-- Their reciprocals, at the elements of the blocks. -/
theorem inverses_apply (r : Fin 31744) (k : Fin 4096) : V m c main_v52 (ix2 r k) = Scale.invR (Table.ratio (table m c) (r.val / 128) (k.val / 128)) := by
  have hv := exponents_apply m c ⟨r.val / 128, by omega⟩ ⟨k.val / 128, by omega⟩
  have hw := two_apply m c
  rw [RefHost.v52_eq]
  generalize V m c main_v46 = v at hv ⊢
  generalize V m c main_v37 = w at hw ⊢
  refine (HostLines.inverse_apply v w hw r k).trans ?_
  rw [hv, Scale.invR]

end Cert.ReferenceIdeal.RefValue

end
-- ==== Proof.ReferenceArrays.lean ====
/-
  The reference's two arrays of codes, by the table of its arguments: its one point stages the whole arrays.
-/
module

public import proofs.«01_k».proof.Proof.ReferenceScale
public import proofs.«01_k».proof.Proof.Gen.ReferenceIdeal.Value

@[expose] public section

set_option maxRecDepth 16384

noncomputable section

namespace Cert.ReferenceIdeal.RefValue

open Cert.ReferenceIdeal Cert.ReferenceIdeal.Gen Idealize.ShloMosaic Idealize.ShloMosaic.TcCoe
open Idealize.ShloMosaic.Pipeline (Dat)

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel

section

variable (x0 x1 : Vec Ideal S31744x4096 .f32)

/-- Reading the whole array leaves every element where it is. -/
theorem ld_whole (x : Vec Ideal S31744x4096 .f32) (i : S31744x4096.Idx) : View.ld x r0_0 i = x i := by
  refine congrArg x (funext fun a => Fin.ext ?_)
  match a with
  | ⟨0, _⟩ => exact (show 0 + 1 * (i 0).val = (i 0).val by omega)
  | ⟨1, _⟩ => exact (show 0 + 1 * (i 1).val = (i 1).val by omega)

/-- The code of a value of `x0` by a reciprocal of `x1`. -/
def codeOf (r : Fin 31744) (k : Fin 4096) : EReal :=
  min (Ideal.ofBits .f32 0x47600000#32) (max (Ideal.ofBits .f32 0xC7600000#32) ((x0 (ix2 r k) : EReal) * (x1 (ix2 r k) : EReal)))

/-- A code of the point's, -/
theorem rows_out (y : S31744x4096.Idx) : out0_2 x0 x1 y = codeOf x0 x1 (y 0) (y 1) := by
  unfold out0_2
  rw [Value.canon2_eq]
  unfold Value.E2
  rw [ld_whole, ld_whole, show Value.ix2_0 y = ix2 (y 0) (y 1) from (eq_ix2 _), show Value.ix2_1 y = ix2 (y 0) (y 1) from (eq_ix2 _)]
  rfl

/-- and where its transpose stores it. -/
theorem cols_out (y : S4096x31744.Idx) : out0_3 x0 x1 y = codeOf x0 x1 (y 1) (y 0) := by
  unfold out0_3
  rw [Value.canon3_eq]
  unfold Value.E3
  rw [ld_whole, ld_whole, show Value.ix3_0 y = ix2 (y 1) (y 0) from (eq_ix2 _), show Value.ix3_1 y = ix2 (y 1) (y 0) from (eq_ix2 _)]
  rfl

variable {x0 x1} {W : ℕ → ℕ → EReal} (h : ∀ (r : Fin 31744) (k : Fin 4096), codeOf x0 x1 r k = Table.code Scale.invR W r.val k.val)
include h

/-- What the point writes back is its block of the table's codes, -/
theorem rows_block (t : Fin cfg0.N) : (cfg0.win 2).cut (grid0.coords t) (out0_2 x0 x1)
    = ((cfg0.win 2).blk t).view.read (Elt Ideal) fun y : S31744x4096.Idx => (Table.code Scale.invR W (y 0).val (y 1).val : EReal) := by
  funext y
  rw [View.read_apply]
  refine (rows_out _ _ y).trans ((h (y 0) (y 1)).trans ?_)
  show Table.code _ _ _ _ = Table.code _ _ (win0_2.index t 0 * 31744 + 1 * (y 0).val) (win0_2.index t 1 * 4096 + 1 * (y 1).val)
  exact congrArg₂ _ (by rw [(index2 t).1]; omega) (by rw [(index2 t).2]; omega)

/-- and of the transposed ones. -/
theorem cols_block (t : Fin cfg0.N) : (cfg0.win 3).cut (grid0.coords t) (out0_3 x0 x1)
    = ((cfg0.win 3).blk t).view.read (Elt Ideal) fun y : S4096x31744.Idx => (Table.code Scale.invR W (y 1).val (y 0).val : EReal) := by
  funext y
  rw [View.read_apply]
  refine (cols_out _ _ y).trans ((h (y 1) (y 0)).trans ?_)
  show Table.code _ _ _ _ = Table.code _ _ (win0_3.index t 1 * 31744 + 1 * (y 1).val) (win0_3.index t 0 * 4096 + 1 * (y 0).val)
  exact congrArg₂ _ (by rw [(index3 t).2]; omega) (by rw [(index3 t).1]; omega)

end

variable (m : (ℓ : Loc nD τ sig) → Buf (Elt Ideal) ℓ) (c : Dev nD)

/-- The block of a window over the whole array is the array. -/
theorem block0 (W : (b : Ref sig Kind.tc) → Buf (Elt Ideal) ((c : Thread nD τ).loc b)) (t : Fin cfg0.N) (i : S31744x4096.Idx) :
    ((cfg0.win 0).blk t).view.read (Elt Ideal) (W (Pipeline.arrRef spec0 0)) i = W main_v28 i := by
  rw [View.read_apply]
  show W main_v28 _ = W main_v28 _
  refine congrArg (W main_v28) (funext fun a => Fin.ext ?_)
  match a with
  | ⟨0, _⟩ => exact (show win0_0.index t 0 * 31744 + 1 * (i 0).val = (i 0).val by rw [(index0 t).1]; omega)
  | ⟨1, _⟩ => exact (show win0_0.index t 1 * 4096 + 1 * (i 1).val = (i 1).val by rw [(index0 t).2]; omega)

theorem block1 (W : (b : Ref sig Kind.tc) → Buf (Elt Ideal) ((c : Thread nD τ).loc b)) (t : Fin cfg0.N) (i : S31744x4096.Idx) :
    ((cfg0.win 1).blk t).view.read (Elt Ideal) (W (Pipeline.arrRef spec0 1)) i = W main_v52 i := by
  rw [View.read_apply]
  show W main_v52 _ = W main_v52 _
  refine congrArg (W main_v52) (funext fun a => Fin.ext ?_)
  match a with
  | ⟨0, _⟩ => exact (show win0_1.index t 0 * 31744 + 1 * (i 0).val = (i 0).val by rw [(index1 t).1]; omega)
  | ⟨1, _⟩ => exact (show win0_1.index t 1 * 4096 + 1 * (i 1).val = (i 1).val by rw [(index1 t).2]; omega)

theorem iblk0_apply (t : Fin cfg0.N) (i : S31744x4096.Idx) : (iblk m c 0 t : Vec Ideal S31744x4096 .f32) i = V m c main_v28 i :=
  block0 c (V m c) t i

theorem iblk1_apply (t : Fin cfg0.N) (i : S31744x4096.Idx) : (iblk m c 1 t : Vec Ideal S31744x4096 .f32) i = V m c main_v52 i :=
  block1 c (V m c) t i

/-- The table's value and its block's reciprocal give the table's code. -/
theorem code_eq (t : Fin cfg0.N) (r : Fin 31744) (k : Fin 4096) : codeOf (iblk m c 0 t) (iblk m c 1 t) r k = Table.code Scale.invR (table m c) r.val k.val := by
  unfold codeOf
  rw [iblk0_apply, iblk1_apply, vals_apply, inverses_apply, Table.code]

theorem arr2 : (dats m 0 c).arrAt 2 cfg0.N = fun y : S31744x4096.Idx => Table.code Scale.invR (table m c) (y 0).val (y 1).val := by
  refine (dats m 0 c).arrAt_eq_of_cover 2 (fun y : S31744x4096.Idx => (Table.code Scale.invR (table m c) (y 0).val (y 1).val : EReal)) (fun t _ => ?_) fun i => ?_
  · rw [Value.flushed2]
    exact rows_block (code_eq m c t) t
  · have h0 : (i 0 : Nat) < 31744 := (i 0).isLt
    have h1 : (i 1 : Nat) < 4096 := (i 1).isLt
    obtain ⟨t⟩ : Nonempty (Fin cfg0.N) := ⟨⟨0, by decide⟩⟩
    refine ⟨t, flush0_2 t, ?_⟩
    show i ∈ ((View.whole main_v53_0).slice (win0_2.rect t)).set
    rw [View.set_slice_whole, Rect.mem_set_unit]
    intro a
    match a with
    | ⟨0, _⟩ =>
      show win0_2.index t 0 * 31744 ≤ (i 0 : Nat) ∧ (i 0 : Nat) < win0_2.index t 0 * 31744 + 31744
      rw [(index2 t).1]; omega
    | ⟨1, _⟩ =>
      show win0_2.index t 1 * 4096 ≤ (i 1 : Nat) ∧ (i 1 : Nat) < win0_2.index t 1 * 4096 + 4096
      rw [(index2 t).2]; omega

theorem arr3 : (dats m 0 c).arrAt 3 cfg0.N = fun y : S4096x31744.Idx => Table.code Scale.invR (table m c) (y 1).val (y 0).val := by
  refine (dats m 0 c).arrAt_eq_of_cover 3 (fun y : S4096x31744.Idx => (Table.code Scale.invR (table m c) (y 1).val (y 0).val : EReal)) (fun t _ => ?_) fun i => ?_
  · rw [Value.flushed3]
    exact cols_block (code_eq m c t) t
  · have h0 : (i 0 : Nat) < 4096 := (i 0).isLt
    have h1 : (i 1 : Nat) < 31744 := (i 1).isLt
    obtain ⟨t⟩ : Nonempty (Fin cfg0.N) := ⟨⟨0, by decide⟩⟩
    refine ⟨t, flush0_3 t, ?_⟩
    show i ∈ ((View.whole main_v53_1).slice (win0_3.rect t)).set
    rw [View.set_slice_whole, Rect.mem_set_unit]
    intro a
    match a with
    | ⟨0, _⟩ =>
      show win0_3.index t 0 * 4096 ≤ (i 0 : Nat) ∧ (i 0 : Nat) < win0_3.index t 0 * 4096 + 4096
      rw [(index3 t).1]; omega
    | ⟨1, _⟩ =>
      show win0_3.index t 1 * 31744 ≤ (i 1 : Nat) ∧ (i 1 : Nat) < win0_3.index t 1 * 31744 + 31744
      rw [(index3 t).2]; omega

end Cert.ReferenceIdeal.RefValue

end
-- ==== Proof.ReferenceRun.lean ====
/-
  What the reference's program ends with: its four results by the table of its arguments, its arguments unchanged.
-/
module

public import proofs.«01_k».proof.Proof.ReferenceArrays

@[expose] public section

set_option maxRecDepth 16384

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

theorem sums_eq (c : Dev nD) : V m c main_v31 = fun y : S4096.Idx => ∑ R ∈ Finset.range 31744, table m c R (y 0).val :=
  funext fun y => (congrArg (V m c main_v31) (eq_ix1 y)).trans (sums_apply m c (y 0))

theorem scales_eq (c : Dev nD) : V m c main_v47 = fun y : S248x32.Idx => Scale.scaleR (Table.ratio (table m c) (y 0).val (y 1).val) :=
  funext fun y => (congrArg (V m c main_v47) (eq_ix2 y)).trans (scales_apply m c (y 0) (y 1))

/-- The four results and the two arguments after every run. -/
theorem run : θ_run defs (onTc (τ := τ) (main (F := Ideal))) ⟨m, fun _ => 0, ρ⟩ fun r => ∀ c : Dev nD,
      r.2.mem ((c : Thread nD τ).loc main_v31) = (fun y : S4096.Idx => ∑ R ∈ Finset.range 31744, table m c R (y 0).val)
      ∧ r.2.mem ((c : Thread nD τ).loc main_v53_0) = (fun y : S31744x4096.Idx => Table.code Scale.invR (table m c) (y 0).val (y 1).val)
      ∧ r.2.mem ((c : Thread nD τ).loc main_v53_1) = (fun y : S4096x31744.Idx => Table.code Scale.invR (table m c) (y 1).val (y 0).val)
      ∧ r.2.mem ((c : Thread nD τ).loc main_v47) = (fun y : S248x32.Idx => Scale.scaleR (Table.ratio (table m c) (y 0).val (y 1).val))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v31 (Pipeline.mem_restRefs_of main_v31 (by decide) (by decide))).trans (sums_eq m c),
      (Value.post2 m r h c).trans (arr2 m c),
      (Value.post3 m r h c).trans (arr3 m c),
      ((h c).2 main_v47 (Pipeline.mem_restRefs_of main_v47 (by decide) (by decide))).trans (scales_eq m c),
      Value.kept_main_arg0 m r h c,
      Value.kept_main_arg1 m r h c⟩)
    (run_main m ρ)

end Cert.ReferenceIdeal.RefValue

end
-- ==== Proof.Equal.lean ====
/-
  Under the precondition, every gradient a number of magnitude at most the greatest of its format, the two programs' results
  are equal: their column sums are the same sums, and the scales they find in their two ways agree.
-/
module

public import proofs.«01_k».proof.Defs
public import proofs.«01_k».proof.Proof.KernelRun
public import proofs.«01_k».proof.Proof.ReferenceRun

@[expose] public section

noncomputable section

namespace Cert.Equal

open Idealize.ShloMosaic Idealize.SL.Sem

/-- The one side condition of the precondition's program. -/
instance facts : Cert.Pre_finite.Facts := ⟨by decide⟩

/-- What the precondition says of one gradient. -/
theorem grad_bound {g x : Cert.Pre_finite.S31744x4096.Idx → Ideal .bf16} (h : Cert.Pre_finite.fn (F := Ideal) g x = fun _ => 1#1)
    (i : Cert.Pre_finite.S31744x4096.Idx) : max (g i : EReal) (-(g i : EReal)) ≤ Ideal.ofBits .bf16 0x7F7F#16 := by
  have hi := congrFun h i
  obtain ⟨r, k, rfl⟩ : ∃ (r : Fin 31744) (k : Fin 4096), i = ix2 r k := ⟨i 0, i 1, eq_ix2 i⟩
  unfold Cert.Pre_finite.fn at hi
  dsimp only at hi
  pointwise at hi
  by_contra hg
  exact absurd (hi.symm.trans (congrArg BitVec.ofBool (decide_eq_false hg))) (by decide)

/-- So the table of the values is bounded. -/
theorem vals_bound {g x : Cert.Pre_finite.S31744x4096.Idx → Ideal .bf16} (h : Cert.Pre_finite.fn (F := Ideal) g x = fun _ => 1#1) (r c : ℕ) :
    max (Table.vals (n := 31744) (m := 4096) g x r c) (-(Table.vals (n := 31744) (m := 4096) g x r c)) ≤ ((2 ^ 130 : ℝ) : EReal) :=
  Gelu.val_bound (grad_bound h _) _

/-- The two programs' four results are equal. -/
theorem algebraic : Cert.algebraic_KernelIdeal_ReferenceIdeal_pre_finite := by
  intro m g m' g' hpre hargs
  have hb := fun c => vals_bound (hpre c)
  have ht : ∀ c, Cert.ReferenceIdeal.RefValue.table m' c = Cert.KernelIdeal.Point.table m c := fun c => by
    unfold Cert.ReferenceIdeal.RefValue.table Cert.KernelIdeal.Point.table
    exact congrArg₂ _ (hargs c).1 (hargs c).2
  refine ⟨_, _, _, _, Cert.KernelIdeal.KernelRun.run m g, ?_⟩
  refine (θ_run Cert.ReferenceIdeal.defs _ _).mono (fun r h c => ?_) (Cert.ReferenceIdeal.RefValue.run m' g')
  obtain ⟨h1, h2, h3, h4, h5⟩ := h c
  rw [ht c] at h1 h2 h3 h4
  refine ⟨h1, h2.trans (funext fun y => ?_), h3.trans (funext fun y => ?_), h4.trans (funext fun y => ?_), h5⟩
  · exact (Table.codes_eq (hb c) _ _).symm
  · exact (Table.codes_eq (hb c) _ _).symm
  · exact (Table.scales_eq (hb c) _ _).1.symm

end Cert.Equal

end
-- ==== Proof.lean ====
/-
  The claims: the three programs run, keep their arguments and end quiescent; the kernel read with exact operations is its
  own text; and its four results are the reference's (Proof/Equal.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Equal.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    Cert.Equal.algebraic⟩

end Cert.Proof

end
